-- ==== Defs.lean ====
def Pre_Kernel [hPre_exchanges_Kernel : Cert.Pre_exchanges_Kernel.Facts] (m : (ℓ : Loc Cert.Kernel.nD Cert.Kernel.τ Cert.Kernel.sig) → Buf (Elt Bits) ℓ) : Prop :=
  ∀ c : Dev Cert.Kernel.nD,
    (Cert.Pre_exchanges_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchanges_Kernel : Cert.Pre_exchanges_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchanges_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchanges_ReferenceIdeal [hPre_exchanges_ReferenceIdeal : Cert.Pre_exchanges_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchanges_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_exchanges_Kernel : Cert.Pre_exchanges_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchanges_Kernel : Cert.Pre_exchanges_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchanges_ReferenceIdeal [hReferenceIdeal : Cert.ReferenceIdeal.Facts] [hPre_exchanges_ReferenceIdeal : Cert.Pre_exchanges_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchanges_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchanges_Kernel : Cert.Pre_exchanges_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exchanges_Kernel : Cert.Pre_exchanges_Kernel.Facts) (hPre_keeps_Kernel : Cert.Pre_keeps_Kernel.Facts) (hPre_exchanges_ReferenceIdeal : Cert.Pre_exchanges_ReferenceIdeal.Facts) (hPre_keeps_ReferenceIdeal : Cert.Pre_keeps_ReferenceIdeal.Facts),
    quiescent_Kernel (hKernel := hKernel) (hPre_exchanges_Kernel := hPre_exchanges_Kernel)
    ∧ quiescent_Kernel_pre_keeps_Kernel (hKernel := hKernel) (hPre_keeps_Kernel := hPre_keeps_Kernel)
    ∧ quiescent_KernelIdeal (hKernelIdeal := hKernelIdeal) (hPre_exchanges_Kernel := hPre_exchanges_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_exchanges_ReferenceIdeal (hReferenceIdeal := hReferenceIdeal) (hPre_exchanges_ReferenceIdeal := hPre_exchanges_ReferenceIdeal)
    ∧ quiescent_ReferenceIdeal_pre_keeps_ReferenceIdeal (hReferenceIdeal := hReferenceIdeal) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_exchanges_Kernel := hPre_exchanges_Kernel)
    ∧ algebraic_KernelIdeal_ReferenceIdeal_pre_keeps_Kernel (hKernelIdeal := hKernelIdeal) (hReferenceIdeal := hReferenceIdeal) (hPre_keeps_Kernel := hPre_keeps_Kernel)
-- ==== Pre_exchanges_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_exchanges_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_keeps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_keeps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S64 : Shape := ⟨1, ![64]⟩
abbrev S_ : Shape := ⟨0, ![]⟩
abbrev S1 : Shape := ⟨1, ![1]⟩
abbrev S1x32x2048 : Shape := ⟨3, ![1, 32, 2048]⟩
abbrev S32x2048 : Shape := ⟨2, ![32, 2048]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .smem, ⟨0, _⟩ => ⟨S2, .i32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 258 → Bool
  | ⟨i, _⟩ => dmaSemScopedAt i

abbrev sig : RefSig :=
  (ofTc nBuf bufTy 1 258 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : Index := Scalar.indexCast v5
  ![v6.toNat]
def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v10 : BitVec 32 := Scalar.muli v2 c2_i32_4
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_2 v5
  let c1_i32_5 : BitVec 32 := 1#32
  let v12 : BitVec 32 := Scalar.muli v9 c1_i32_5
  let v13 : BitVec 32 := Scalar.addi v11 v12
  v13.toNat
def k0_dev2 (d0 : Dev nD) : Nat :=
  let c0_i32_9 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v14 : BitVec 32 := Scalar.subi c1_i32_6 v2
  let c2_i32_8 : BitVec 32 := 2#32
  let v15 : BitVec 32 := Scalar.muli v14 c2_i32_8
  let v16 : BitVec 32 := Scalar.addi c0_i32_9 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v17 : BitVec 32 := Scalar.muli v5 c1_i32_10
  let v18 : BitVec 32 := Scalar.addi v16 v17
  v18.toNat
def k0_off2 (d0 : Dev nD) (c0_i32_14 : BitVec 32) : Fin 3 → Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v25 : BitVec 32 := Scalar.muli v2 c2048_i32
  let v26 : BitVec 32 := Scalar.addi v25 c0_i32_14
  let c0_i32_23 : BitVec 32 := 0#32
  ![0, v26.toNat, 0]
def k0_dev3 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v28 : BitVec 32 := Scalar.muli v2 c2_i32_20
  let v29 : BitVec 32 := Scalar.addi c0_i32_21 v28
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v27 : BitVec 32 := Scalar.subi c1_i32_15 v5
  let c1_i32_22 : BitVec 32 := 1#32
  let v30 : BitVec 32 := Scalar.muli v27 c1_i32_22
  let v31 : BitVec 32 := Scalar.addi v29 v30
  v31.toNat
def k0_dev4 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v43 : BitVec 32 := Scalar.muli v2 c2_i32_31
  let v44 : BitVec 32 := Scalar.addi c0_i32_32 v43
  let c1_i32_26 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v42 : BitVec 32 := Scalar.subi c1_i32_26 v5
  let c1_i32_33 : BitVec 32 := 1#32
  let v45 : BitVec 32 := Scalar.muli v42 c1_i32_33
  let v46 : BitVec 32 := Scalar.addi v44 v45
  v46.toNat
def k0_dev5 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v58 : BitVec 32 := Scalar.muli v2 c2_i32_42
  let v59 : BitVec 32 := Scalar.addi c0_i32_43 v58
  let c1_i32_37 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v57 : BitVec 32 := Scalar.subi c1_i32_37 v5
  let c1_i32_44 : BitVec 32 := 1#32
  let v60 : BitVec 32 := Scalar.muli v57 c1_i32_44
  let v61 : BitVec 32 := Scalar.addi v59 v60
  v61.toNat
def k0_dev6 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v73 : BitVec 32 := Scalar.muli v2 c2_i32_52
  let v74 : BitVec 32 := Scalar.addi c0_i32_53 v73
  let c1_i32_48 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v72 : BitVec 32 := Scalar.subi c1_i32_48 v5
  let c1_i32_54 : BitVec 32 := 1#32
  let v75 : BitVec 32 := Scalar.muli v72 c1_i32_54
  let v76 : BitVec 32 := Scalar.addi v74 v75
  v76.toNat
def k0_dev7 (d0 : Dev nD) : Nat :=
  let c0_i32_63 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_62 : BitVec 32 := 2#32
  let v88 : BitVec 32 := Scalar.muli v2 c2_i32_62
  let v89 : BitVec 32 := Scalar.addi c0_i32_63 v88
  let c1_i32_58 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v87 : BitVec 32 := Scalar.subi c1_i32_58 v5
  let c1_i32_64 : BitVec 32 := 1#32
  let v90 : BitVec 32 := Scalar.muli v87 c1_i32_64
  let v91 : BitVec 32 := Scalar.addi v89 v90
  v91.toNat
def k0_dev8 (d0 : Dev nD) : Nat :=
  let c0_i32_73 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_72 : BitVec 32 := 2#32
  let v103 : BitVec 32 := Scalar.muli v2 c2_i32_72
  let v104 : BitVec 32 := Scalar.addi c0_i32_73 v103
  let c1_i32_68 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v102 : BitVec 32 := Scalar.subi c1_i32_68 v5
  let c1_i32_74 : BitVec 32 := 1#32
  let v105 : BitVec 32 := Scalar.muli v102 c1_i32_74
  let v106 : BitVec 32 := Scalar.addi v104 v105
  v106.toNat
def k0_dev9 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v118 : BitVec 32 := Scalar.muli v2 c2_i32_82
  let v119 : BitVec 32 := Scalar.addi c0_i32_83 v118
  let c1_i32_78 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v117 : BitVec 32 := Scalar.subi c1_i32_78 v5
  let c1_i32_84 : BitVec 32 := 1#32
  let v120 : BitVec 32 := Scalar.muli v117 c1_i32_84
  let v121 : BitVec 32 := Scalar.addi v119 v120
  v121.toNat
def k0_dev10 (d0 : Dev nD) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v133 : BitVec 32 := Scalar.muli v2 c2_i32_92
  let v134 : BitVec 32 := Scalar.addi c0_i32_93 v133
  let c1_i32_88 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v132 : BitVec 32 := Scalar.subi c1_i32_88 v5
  let c1_i32_94 : BitVec 32 := 1#32
  let v135 : BitVec 32 := Scalar.muli v132 c1_i32_94
  let v136 : BitVec 32 := Scalar.addi v134 v135
  v136.toNat
def k0_dev11 (d0 : Dev nD) : Nat :=
  let c0_i32_103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_102 : BitVec 32 := 2#32
  let v148 : BitVec 32 := Scalar.muli v2 c2_i32_102
  let v149 : BitVec 32 := Scalar.addi c0_i32_103 v148
  let c1_i32_98 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v147 : BitVec 32 := Scalar.subi c1_i32_98 v5
  let c1_i32_104 : BitVec 32 := 1#32
  let v150 : BitVec 32 := Scalar.muli v147 c1_i32_104
  let v151 : BitVec 32 := Scalar.addi v149 v150
  v151.toNat
def k0_dev12 (d0 : Dev nD) : Nat :=
  let c0_i32_113 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_112 : BitVec 32 := 2#32
  let v163 : BitVec 32 := Scalar.muli v2 c2_i32_112
  let v164 : BitVec 32 := Scalar.addi c0_i32_113 v163
  let c1_i32_108 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v162 : BitVec 32 := Scalar.subi c1_i32_108 v5
  let c1_i32_114 : BitVec 32 := 1#32
  let v165 : BitVec 32 := Scalar.muli v162 c1_i32_114
  let v166 : BitVec 32 := Scalar.addi v164 v165
  v166.toNat
def k0_dev13 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v178 : BitVec 32 := Scalar.muli v2 c2_i32_122
  let v179 : BitVec 32 := Scalar.addi c0_i32_123 v178
  let c1_i32_118 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v177 : BitVec 32 := Scalar.subi c1_i32_118 v5
  let c1_i32_124 : BitVec 32 := 1#32
  let v180 : BitVec 32 := Scalar.muli v177 c1_i32_124
  let v181 : BitVec 32 := Scalar.addi v179 v180
  v181.toNat
def k0_dev14 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v193 : BitVec 32 := Scalar.muli v2 c2_i32_132
  let v194 : BitVec 32 := Scalar.addi c0_i32_133 v193
  let c1_i32_128 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v192 : BitVec 32 := Scalar.subi c1_i32_128 v5
  let c1_i32_134 : BitVec 32 := 1#32
  let v195 : BitVec 32 := Scalar.muli v192 c1_i32_134
  let v196 : BitVec 32 := Scalar.addi v194 v195
  v196.toNat
def k0_dev15 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v208 : BitVec 32 := Scalar.muli v2 c2_i32_142
  let v209 : BitVec 32 := Scalar.addi c0_i32_143 v208
  let c1_i32_138 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v207 : BitVec 32 := Scalar.subi c1_i32_138 v5
  let c1_i32_144 : BitVec 32 := 1#32
  let v210 : BitVec 32 := Scalar.muli v207 c1_i32_144
  let v211 : BitVec 32 := Scalar.addi v209 v210
  v211.toNat
def k0_dev16 (d0 : Dev nD) : Nat :=
  let c0_i32_153 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_152 : BitVec 32 := 2#32
  let v223 : BitVec 32 := Scalar.muli v2 c2_i32_152
  let v224 : BitVec 32 := Scalar.addi c0_i32_153 v223
  let c1_i32_148 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v222 : BitVec 32 := Scalar.subi c1_i32_148 v5
  let c1_i32_154 : BitVec 32 := 1#32
  let v225 : BitVec 32 := Scalar.muli v222 c1_i32_154
  let v226 : BitVec 32 := Scalar.addi v224 v225
  v226.toNat
def k0_dev17 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v238 : BitVec 32 := Scalar.muli v2 c2_i32_162
  let v239 : BitVec 32 := Scalar.addi c0_i32_163 v238
  let c1_i32_158 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v237 : BitVec 32 := Scalar.subi c1_i32_158 v5
  let c1_i32_164 : BitVec 32 := 1#32
  let v240 : BitVec 32 := Scalar.muli v237 c1_i32_164
  let v241 : BitVec 32 := Scalar.addi v239 v240
  v241.toNat
def k0_dev18 (d0 : Dev nD) : Nat :=
  let c0_i32_173 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_172 : BitVec 32 := 2#32
  let v253 : BitVec 32 := Scalar.muli v2 c2_i32_172
  let v254 : BitVec 32 := Scalar.addi c0_i32_173 v253
  let c1_i32_168 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v252 : BitVec 32 := Scalar.subi c1_i32_168 v5
  let c1_i32_174 : BitVec 32 := 1#32
  let v255 : BitVec 32 := Scalar.muli v252 c1_i32_174
  let v256 : BitVec 32 := Scalar.addi v254 v255
  v256.toNat
def k0_dev19 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v268 : BitVec 32 := Scalar.muli v2 c2_i32_182
  let v269 : BitVec 32 := Scalar.addi c0_i32_183 v268
  let c1_i32_178 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v267 : BitVec 32 := Scalar.subi c1_i32_178 v5
  let c1_i32_184 : BitVec 32 := 1#32
  let v270 : BitVec 32 := Scalar.muli v267 c1_i32_184
  let v271 : BitVec 32 := Scalar.addi v269 v270
  v271.toNat
def k0_dev20 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v283 : BitVec 32 := Scalar.muli v2 c2_i32_192
  let v284 : BitVec 32 := Scalar.addi c0_i32_193 v283
  let c1_i32_188 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v282 : BitVec 32 := Scalar.subi c1_i32_188 v5
  let c1_i32_194 : BitVec 32 := 1#32
  let v285 : BitVec 32 := Scalar.muli v282 c1_i32_194
  let v286 : BitVec 32 := Scalar.addi v284 v285
  v286.toNat
def k0_dev21 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v298 : BitVec 32 := Scalar.muli v2 c2_i32_202
  let v299 : BitVec 32 := Scalar.addi c0_i32_203 v298
  let c1_i32_198 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v297 : BitVec 32 := Scalar.subi c1_i32_198 v5
  let c1_i32_204 : BitVec 32 := 1#32
  let v300 : BitVec 32 := Scalar.muli v297 c1_i32_204
  let v301 : BitVec 32 := Scalar.addi v299 v300
  v301.toNat
def k0_dev22 (d0 : Dev nD) : Nat :=
  let c0_i32_213 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_212 : BitVec 32 := 2#32
  let v313 : BitVec 32 := Scalar.muli v2 c2_i32_212
  let v314 : BitVec 32 := Scalar.addi c0_i32_213 v313
  let c1_i32_208 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v312 : BitVec 32 := Scalar.subi c1_i32_208 v5
  let c1_i32_214 : BitVec 32 := 1#32
  let v315 : BitVec 32 := Scalar.muli v312 c1_i32_214
  let v316 : BitVec 32 := Scalar.addi v314 v315
  v316.toNat
def k0_dev23 (d0 : Dev nD) : Nat :=
  let c0_i32_223 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_222 : BitVec 32 := 2#32
  let v328 : BitVec 32 := Scalar.muli v2 c2_i32_222
  let v329 : BitVec 32 := Scalar.addi c0_i32_223 v328
  let c1_i32_218 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v327 : BitVec 32 := Scalar.subi c1_i32_218 v5
  let c1_i32_224 : BitVec 32 := 1#32
  let v330 : BitVec 32 := Scalar.muli v327 c1_i32_224
  let v331 : BitVec 32 := Scalar.addi v329 v330
  v331.toNat
def k0_dev24 (d0 : Dev nD) : Nat :=
  let c0_i32_233 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_232 : BitVec 32 := 2#32
  let v343 : BitVec 32 := Scalar.muli v2 c2_i32_232
  let v344 : BitVec 32 := Scalar.addi c0_i32_233 v343
  let c1_i32_228 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v342 : BitVec 32 := Scalar.subi c1_i32_228 v5
  let c1_i32_234 : BitVec 32 := 1#32
  let v345 : BitVec 32 := Scalar.muli v342 c1_i32_234
  let v346 : BitVec 32 := Scalar.addi v344 v345
  v346.toNat
def k0_dev25 (d0 : Dev nD) : Nat :=
  let c0_i32_243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_242 : BitVec 32 := 2#32
  let v358 : BitVec 32 := Scalar.muli v2 c2_i32_242
  let v359 : BitVec 32 := Scalar.addi c0_i32_243 v358
  let c1_i32_238 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v357 : BitVec 32 := Scalar.subi c1_i32_238 v5
  let c1_i32_244 : BitVec 32 := 1#32
  let v360 : BitVec 32 := Scalar.muli v357 c1_i32_244
  let v361 : BitVec 32 := Scalar.addi v359 v360
  v361.toNat
def k0_dev26 (d0 : Dev nD) : Nat :=
  let c0_i32_253 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_252 : BitVec 32 := 2#32
  let v373 : BitVec 32 := Scalar.muli v2 c2_i32_252
  let v374 : BitVec 32 := Scalar.addi c0_i32_253 v373
  let c1_i32_248 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v372 : BitVec 32 := Scalar.subi c1_i32_248 v5
  let c1_i32_254 : BitVec 32 := 1#32
  let v375 : BitVec 32 := Scalar.muli v372 c1_i32_254
  let v376 : BitVec 32 := Scalar.addi v374 v375
  v376.toNat
def k0_dev27 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v388 : BitVec 32 := Scalar.muli v2 c2_i32_262
  let v389 : BitVec 32 := Scalar.addi c0_i32_263 v388
  let c1_i32_258 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v387 : BitVec 32 := Scalar.subi c1_i32_258 v5
  let c1_i32_264 : BitVec 32 := 1#32
  let v390 : BitVec 32 := Scalar.muli v387 c1_i32_264
  let v391 : BitVec 32 := Scalar.addi v389 v390
  v391.toNat
def k0_dev28 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v403 : BitVec 32 := Scalar.muli v2 c2_i32_272
  let v404 : BitVec 32 := Scalar.addi c0_i32_273 v403
  let c1_i32_268 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v402 : BitVec 32 := Scalar.subi c1_i32_268 v5
  let c1_i32_274 : BitVec 32 := 1#32
  let v405 : BitVec 32 := Scalar.muli v402 c1_i32_274
  let v406 : BitVec 32 := Scalar.addi v404 v405
  v406.toNat
def k0_dev29 (d0 : Dev nD) : Nat :=
  let c0_i32_283 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_282 : BitVec 32 := 2#32
  let v418 : BitVec 32 := Scalar.muli v2 c2_i32_282
  let v419 : BitVec 32 := Scalar.addi c0_i32_283 v418
  let c1_i32_278 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v417 : BitVec 32 := Scalar.subi c1_i32_278 v5
  let c1_i32_284 : BitVec 32 := 1#32
  let v420 : BitVec 32 := Scalar.muli v417 c1_i32_284
  let v421 : BitVec 32 := Scalar.addi v419 v420
  v421.toNat
def k0_dev30 (d0 : Dev nD) : Nat :=
  let c0_i32_293 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_292 : BitVec 32 := 2#32
  let v433 : BitVec 32 := Scalar.muli v2 c2_i32_292
  let v434 : BitVec 32 := Scalar.addi c0_i32_293 v433
  let c1_i32_288 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v432 : BitVec 32 := Scalar.subi c1_i32_288 v5
  let c1_i32_294 : BitVec 32 := 1#32
  let v435 : BitVec 32 := Scalar.muli v432 c1_i32_294
  let v436 : BitVec 32 := Scalar.addi v434 v435
  v436.toNat
def k0_dev31 (d0 : Dev nD) : Nat :=
  let c0_i32_303 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_302 : BitVec 32 := 2#32
  let v448 : BitVec 32 := Scalar.muli v2 c2_i32_302
  let v449 : BitVec 32 := Scalar.addi c0_i32_303 v448
  let c1_i32_298 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v447 : BitVec 32 := Scalar.subi c1_i32_298 v5
  let c1_i32_304 : BitVec 32 := 1#32
  let v450 : BitVec 32 := Scalar.muli v447 c1_i32_304
  let v451 : BitVec 32 := Scalar.addi v449 v450
  v451.toNat
def k0_dev32 (d0 : Dev nD) : Nat :=
  let c0_i32_313 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_312 : BitVec 32 := 2#32
  let v463 : BitVec 32 := Scalar.muli v2 c2_i32_312
  let v464 : BitVec 32 := Scalar.addi c0_i32_313 v463
  let c1_i32_308 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v462 : BitVec 32 := Scalar.subi c1_i32_308 v5
  let c1_i32_314 : BitVec 32 := 1#32
  let v465 : BitVec 32 := Scalar.muli v462 c1_i32_314
  let v466 : BitVec 32 := Scalar.addi v464 v465
  v466.toNat
def k0_dev33 (d0 : Dev nD) : Nat :=
  let c0_i32_323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_322 : BitVec 32 := 2#32
  let v478 : BitVec 32 := Scalar.muli v2 c2_i32_322
  let v479 : BitVec 32 := Scalar.addi c0_i32_323 v478
  let c1_i32_318 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v477 : BitVec 32 := Scalar.subi c1_i32_318 v5
  let c1_i32_324 : BitVec 32 := 1#32
  let v480 : BitVec 32 := Scalar.muli v477 c1_i32_324
  let v481 : BitVec 32 := Scalar.addi v479 v480
  v481.toNat
def k0_dev34 (d0 : Dev nD) : Nat :=
  let c0_i32_333 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_332 : BitVec 32 := 2#32
  let v493 : BitVec 32 := Scalar.muli v2 c2_i32_332
  let v494 : BitVec 32 := Scalar.addi c0_i32_333 v493
  let c1_i32_328 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v492 : BitVec 32 := Scalar.subi c1_i32_328 v5
  let c1_i32_334 : BitVec 32 := 1#32
  let v495 : BitVec 32 := Scalar.muli v492 c1_i32_334
  let v496 : BitVec 32 := Scalar.addi v494 v495
  v496.toNat
def k0_dev35 (d0 : Dev nD) : Nat :=
  let c0_i32_344 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_343 : BitVec 32 := 2#32
  let v508 : BitVec 32 := Scalar.muli v2 c2_i32_343
  let v509 : BitVec 32 := Scalar.addi c0_i32_344 v508
  let c1_i32_338 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v507 : BitVec 32 := Scalar.subi c1_i32_338 v5
  let c1_i32_345 : BitVec 32 := 1#32
  let v510 : BitVec 32 := Scalar.muli v507 c1_i32_345
  let v511 : BitVec 32 := Scalar.addi v509 v510
  v511.toNat
def k0_dev36 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v523 : BitVec 32 := Scalar.muli v2 c2_i32_353
  let v524 : BitVec 32 := Scalar.addi c0_i32_354 v523
  let c1_i32_349 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v522 : BitVec 32 := Scalar.subi c1_i32_349 v5
  let c1_i32_355 : BitVec 32 := 1#32
  let v525 : BitVec 32 := Scalar.muli v522 c1_i32_355
  let v526 : BitVec 32 := Scalar.addi v524 v525
  v526.toNat
def k0_dev37 (d0 : Dev nD) : Nat :=
  let c0_i32_364 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_363 : BitVec 32 := 2#32
  let v538 : BitVec 32 := Scalar.muli v2 c2_i32_363
  let v539 : BitVec 32 := Scalar.addi c0_i32_364 v538
  let c1_i32_359 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v537 : BitVec 32 := Scalar.subi c1_i32_359 v5
  let c1_i32_365 : BitVec 32 := 1#32
  let v540 : BitVec 32 := Scalar.muli v537 c1_i32_365
  let v541 : BitVec 32 := Scalar.addi v539 v540
  v541.toNat
def k0_dev38 (d0 : Dev nD) : Nat :=
  let c0_i32_374 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_373 : BitVec 32 := 2#32
  let v553 : BitVec 32 := Scalar.muli v2 c2_i32_373
  let v554 : BitVec 32 := Scalar.addi c0_i32_374 v553
  let c1_i32_369 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v552 : BitVec 32 := Scalar.subi c1_i32_369 v5
  let c1_i32_375 : BitVec 32 := 1#32
  let v555 : BitVec 32 := Scalar.muli v552 c1_i32_375
  let v556 : BitVec 32 := Scalar.addi v554 v555
  v556.toNat
def k0_dev39 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v568 : BitVec 32 := Scalar.muli v2 c2_i32_383
  let v569 : BitVec 32 := Scalar.addi c0_i32_384 v568
  let c1_i32_379 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v567 : BitVec 32 := Scalar.subi c1_i32_379 v5
  let c1_i32_385 : BitVec 32 := 1#32
  let v570 : BitVec 32 := Scalar.muli v567 c1_i32_385
  let v571 : BitVec 32 := Scalar.addi v569 v570
  v571.toNat
def k0_dev40 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v583 : BitVec 32 := Scalar.muli v2 c2_i32_393
  let v584 : BitVec 32 := Scalar.addi c0_i32_394 v583
  let c1_i32_389 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v582 : BitVec 32 := Scalar.subi c1_i32_389 v5
  let c1_i32_395 : BitVec 32 := 1#32
  let v585 : BitVec 32 := Scalar.muli v582 c1_i32_395
  let v586 : BitVec 32 := Scalar.addi v584 v585
  v586.toNat
def k0_dev41 (d0 : Dev nD) : Nat :=
  let c0_i32_404 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_403 : BitVec 32 := 2#32
  let v598 : BitVec 32 := Scalar.muli v2 c2_i32_403
  let v599 : BitVec 32 := Scalar.addi c0_i32_404 v598
  let c1_i32_399 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v597 : BitVec 32 := Scalar.subi c1_i32_399 v5
  let c1_i32_405 : BitVec 32 := 1#32
  let v600 : BitVec 32 := Scalar.muli v597 c1_i32_405
  let v601 : BitVec 32 := Scalar.addi v599 v600
  v601.toNat
def k0_dev42 (d0 : Dev nD) : Nat :=
  let c0_i32_414 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_413 : BitVec 32 := 2#32
  let v613 : BitVec 32 := Scalar.muli v2 c2_i32_413
  let v614 : BitVec 32 := Scalar.addi c0_i32_414 v613
  let c1_i32_409 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v612 : BitVec 32 := Scalar.subi c1_i32_409 v5
  let c1_i32_415 : BitVec 32 := 1#32
  let v615 : BitVec 32 := Scalar.muli v612 c1_i32_415
  let v616 : BitVec 32 := Scalar.addi v614 v615
  v616.toNat
def k0_dev43 (d0 : Dev nD) : Nat :=
  let c0_i32_424 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_423 : BitVec 32 := 2#32
  let v628 : BitVec 32 := Scalar.muli v2 c2_i32_423
  let v629 : BitVec 32 := Scalar.addi c0_i32_424 v628
  let c1_i32_419 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v627 : BitVec 32 := Scalar.subi c1_i32_419 v5
  let c1_i32_425 : BitVec 32 := 1#32
  let v630 : BitVec 32 := Scalar.muli v627 c1_i32_425
  let v631 : BitVec 32 := Scalar.addi v629 v630
  v631.toNat
def k0_dev44 (d0 : Dev nD) : Nat :=
  let c0_i32_434 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_433 : BitVec 32 := 2#32
  let v643 : BitVec 32 := Scalar.muli v2 c2_i32_433
  let v644 : BitVec 32 := Scalar.addi c0_i32_434 v643
  let c1_i32_429 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v642 : BitVec 32 := Scalar.subi c1_i32_429 v5
  let c1_i32_435 : BitVec 32 := 1#32
  let v645 : BitVec 32 := Scalar.muli v642 c1_i32_435
  let v646 : BitVec 32 := Scalar.addi v644 v645
  v646.toNat
def k0_dev45 (d0 : Dev nD) : Nat :=
  let c0_i32_444 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_443 : BitVec 32 := 2#32
  let v658 : BitVec 32 := Scalar.muli v2 c2_i32_443
  let v659 : BitVec 32 := Scalar.addi c0_i32_444 v658
  let c1_i32_439 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v657 : BitVec 32 := Scalar.subi c1_i32_439 v5
  let c1_i32_445 : BitVec 32 := 1#32
  let v660 : BitVec 32 := Scalar.muli v657 c1_i32_445
  let v661 : BitVec 32 := Scalar.addi v659 v660
  v661.toNat
def k0_dev46 (d0 : Dev nD) : Nat :=
  let c0_i32_454 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_453 : BitVec 32 := 2#32
  let v673 : BitVec 32 := Scalar.muli v2 c2_i32_453
  let v674 : BitVec 32 := Scalar.addi c0_i32_454 v673
  let c1_i32_449 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v672 : BitVec 32 := Scalar.subi c1_i32_449 v5
  let c1_i32_455 : BitVec 32 := 1#32
  let v675 : BitVec 32 := Scalar.muli v672 c1_i32_455
  let v676 : BitVec 32 := Scalar.addi v674 v675
  v676.toNat
def k0_dev47 (d0 : Dev nD) : Nat :=
  let c0_i32_464 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_463 : BitVec 32 := 2#32
  let v688 : BitVec 32 := Scalar.muli v2 c2_i32_463
  let v689 : BitVec 32 := Scalar.addi c0_i32_464 v688
  let c1_i32_459 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v687 : BitVec 32 := Scalar.subi c1_i32_459 v5
  let c1_i32_465 : BitVec 32 := 1#32
  let v690 : BitVec 32 := Scalar.muli v687 c1_i32_465
  let v691 : BitVec 32 := Scalar.addi v689 v690
  v691.toNat
def k0_dev48 (d0 : Dev nD) : Nat :=
  let c0_i32_474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_473 : BitVec 32 := 2#32
  let v703 : BitVec 32 := Scalar.muli v2 c2_i32_473
  let v704 : BitVec 32 := Scalar.addi c0_i32_474 v703
  let c1_i32_469 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v702 : BitVec 32 := Scalar.subi c1_i32_469 v5
  let c1_i32_475 : BitVec 32 := 1#32
  let v705 : BitVec 32 := Scalar.muli v702 c1_i32_475
  let v706 : BitVec 32 := Scalar.addi v704 v705
  v706.toNat
def k0_dev49 (d0 : Dev nD) : Nat :=
  let c0_i32_484 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_483 : BitVec 32 := 2#32
  let v718 : BitVec 32 := Scalar.muli v2 c2_i32_483
  let v719 : BitVec 32 := Scalar.addi c0_i32_484 v718
  let c1_i32_479 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v717 : BitVec 32 := Scalar.subi c1_i32_479 v5
  let c1_i32_485 : BitVec 32 := 1#32
  let v720 : BitVec 32 := Scalar.muli v717 c1_i32_485
  let v721 : BitVec 32 := Scalar.addi v719 v720
  v721.toNat
def k0_dev50 (d0 : Dev nD) : Nat :=
  let c0_i32_494 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_493 : BitVec 32 := 2#32
  let v733 : BitVec 32 := Scalar.muli v2 c2_i32_493
  let v734 : BitVec 32 := Scalar.addi c0_i32_494 v733
  let c1_i32_489 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v732 : BitVec 32 := Scalar.subi c1_i32_489 v5
  let c1_i32_495 : BitVec 32 := 1#32
  let v735 : BitVec 32 := Scalar.muli v732 c1_i32_495
  let v736 : BitVec 32 := Scalar.addi v734 v735
  v736.toNat
def k0_dev51 (d0 : Dev nD) : Nat :=
  let c0_i32_504 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_503 : BitVec 32 := 2#32
  let v748 : BitVec 32 := Scalar.muli v2 c2_i32_503
  let v749 : BitVec 32 := Scalar.addi c0_i32_504 v748
  let c1_i32_499 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v747 : BitVec 32 := Scalar.subi c1_i32_499 v5
  let c1_i32_505 : BitVec 32 := 1#32
  let v750 : BitVec 32 := Scalar.muli v747 c1_i32_505
  let v751 : BitVec 32 := Scalar.addi v749 v750
  v751.toNat
def k0_dev52 (d0 : Dev nD) : Nat :=
  let c0_i32_514 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_513 : BitVec 32 := 2#32
  let v763 : BitVec 32 := Scalar.muli v2 c2_i32_513
  let v764 : BitVec 32 := Scalar.addi c0_i32_514 v763
  let c1_i32_509 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v762 : BitVec 32 := Scalar.subi c1_i32_509 v5
  let c1_i32_515 : BitVec 32 := 1#32
  let v765 : BitVec 32 := Scalar.muli v762 c1_i32_515
  let v766 : BitVec 32 := Scalar.addi v764 v765
  v766.toNat
def k0_dev53 (d0 : Dev nD) : Nat :=
  let c0_i32_524 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_523 : BitVec 32 := 2#32
  let v778 : BitVec 32 := Scalar.muli v2 c2_i32_523
  let v779 : BitVec 32 := Scalar.addi c0_i32_524 v778
  let c1_i32_519 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v777 : BitVec 32 := Scalar.subi c1_i32_519 v5
  let c1_i32_525 : BitVec 32 := 1#32
  let v780 : BitVec 32 := Scalar.muli v777 c1_i32_525
  let v781 : BitVec 32 := Scalar.addi v779 v780
  v781.toNat
def k0_dev54 (d0 : Dev nD) : Nat :=
  let c0_i32_534 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_533 : BitVec 32 := 2#32
  let v793 : BitVec 32 := Scalar.muli v2 c2_i32_533
  let v794 : BitVec 32 := Scalar.addi c0_i32_534 v793
  let c1_i32_529 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v792 : BitVec 32 := Scalar.subi c1_i32_529 v5
  let c1_i32_535 : BitVec 32 := 1#32
  let v795 : BitVec 32 := Scalar.muli v792 c1_i32_535
  let v796 : BitVec 32 := Scalar.addi v794 v795
  v796.toNat
def k0_dev55 (d0 : Dev nD) : Nat :=
  let c0_i32_544 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_543 : BitVec 32 := 2#32
  let v808 : BitVec 32 := Scalar.muli v2 c2_i32_543
  let v809 : BitVec 32 := Scalar.addi c0_i32_544 v808
  let c1_i32_539 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v807 : BitVec 32 := Scalar.subi c1_i32_539 v5
  let c1_i32_545 : BitVec 32 := 1#32
  let v810 : BitVec 32 := Scalar.muli v807 c1_i32_545
  let v811 : BitVec 32 := Scalar.addi v809 v810
  v811.toNat
def k0_dev56 (d0 : Dev nD) : Nat :=
  let c0_i32_554 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_553 : BitVec 32 := 2#32
  let v823 : BitVec 32 := Scalar.muli v2 c2_i32_553
  let v824 : BitVec 32 := Scalar.addi c0_i32_554 v823
  let c1_i32_549 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v822 : BitVec 32 := Scalar.subi c1_i32_549 v5
  let c1_i32_555 : BitVec 32 := 1#32
  let v825 : BitVec 32 := Scalar.muli v822 c1_i32_555
  let v826 : BitVec 32 := Scalar.addi v824 v825
  v826.toNat
def k0_dev57 (d0 : Dev nD) : Nat :=
  let c0_i32_564 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_563 : BitVec 32 := 2#32
  let v838 : BitVec 32 := Scalar.muli v2 c2_i32_563
  let v839 : BitVec 32 := Scalar.addi c0_i32_564 v838
  let c1_i32_559 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v837 : BitVec 32 := Scalar.subi c1_i32_559 v5
  let c1_i32_565 : BitVec 32 := 1#32
  let v840 : BitVec 32 := Scalar.muli v837 c1_i32_565
  let v841 : BitVec 32 := Scalar.addi v839 v840
  v841.toNat
def k0_dev58 (d0 : Dev nD) : Nat :=
  let c0_i32_574 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_573 : BitVec 32 := 2#32
  let v853 : BitVec 32 := Scalar.muli v2 c2_i32_573
  let v854 : BitVec 32 := Scalar.addi c0_i32_574 v853
  let c1_i32_569 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v852 : BitVec 32 := Scalar.subi c1_i32_569 v5
  let c1_i32_575 : BitVec 32 := 1#32
  let v855 : BitVec 32 := Scalar.muli v852 c1_i32_575
  let v856 : BitVec 32 := Scalar.addi v854 v855
  v856.toNat
def k0_dev59 (d0 : Dev nD) : Nat :=
  let c0_i32_584 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_583 : BitVec 32 := 2#32
  let v868 : BitVec 32 := Scalar.muli v2 c2_i32_583
  let v869 : BitVec 32 := Scalar.addi c0_i32_584 v868
  let c1_i32_579 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v867 : BitVec 32 := Scalar.subi c1_i32_579 v5
  let c1_i32_585 : BitVec 32 := 1#32
  let v870 : BitVec 32 := Scalar.muli v867 c1_i32_585
  let v871 : BitVec 32 := Scalar.addi v869 v870
  v871.toNat
def k0_dev60 (d0 : Dev nD) : Nat :=
  let c0_i32_594 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_593 : BitVec 32 := 2#32
  let v883 : BitVec 32 := Scalar.muli v2 c2_i32_593
  let v884 : BitVec 32 := Scalar.addi c0_i32_594 v883
  let c1_i32_589 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v882 : BitVec 32 := Scalar.subi c1_i32_589 v5
  let c1_i32_595 : BitVec 32 := 1#32
  let v885 : BitVec 32 := Scalar.muli v882 c1_i32_595
  let v886 : BitVec 32 := Scalar.addi v884 v885
  v886.toNat
def k0_dev61 (d0 : Dev nD) : Nat :=
  let c0_i32_604 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_603 : BitVec 32 := 2#32
  let v898 : BitVec 32 := Scalar.muli v2 c2_i32_603
  let v899 : BitVec 32 := Scalar.addi c0_i32_604 v898
  let c1_i32_599 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v897 : BitVec 32 := Scalar.subi c1_i32_599 v5
  let c1_i32_605 : BitVec 32 := 1#32
  let v900 : BitVec 32 := Scalar.muli v897 c1_i32_605
  let v901 : BitVec 32 := Scalar.addi v899 v900
  v901.toNat
def k0_dev62 (d0 : Dev nD) : Nat :=
  let c0_i32_614 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_613 : BitVec 32 := 2#32
  let v913 : BitVec 32 := Scalar.muli v2 c2_i32_613
  let v914 : BitVec 32 := Scalar.addi c0_i32_614 v913
  let c1_i32_609 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v912 : BitVec 32 := Scalar.subi c1_i32_609 v5
  let c1_i32_615 : BitVec 32 := 1#32
  let v915 : BitVec 32 := Scalar.muli v912 c1_i32_615
  let v916 : BitVec 32 := Scalar.addi v914 v915
  v916.toNat
def k0_dev63 (d0 : Dev nD) : Nat :=
  let c0_i32_624 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_623 : BitVec 32 := 2#32
  let v928 : BitVec 32 := Scalar.muli v2 c2_i32_623
  let v929 : BitVec 32 := Scalar.addi c0_i32_624 v928
  let c1_i32_619 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v927 : BitVec 32 := Scalar.subi c1_i32_619 v5
  let c1_i32_625 : BitVec 32 := 1#32
  let v930 : BitVec 32 := Scalar.muli v927 c1_i32_625
  let v931 : BitVec 32 := Scalar.addi v929 v930
  v931.toNat
def k0_dev64 (d0 : Dev nD) : Nat :=
  let c0_i32_634 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_633 : BitVec 32 := 2#32
  let v943 : BitVec 32 := Scalar.muli v2 c2_i32_633
  let v944 : BitVec 32 := Scalar.addi c0_i32_634 v943
  let c1_i32_629 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v942 : BitVec 32 := Scalar.subi c1_i32_629 v5
  let c1_i32_635 : BitVec 32 := 1#32
  let v945 : BitVec 32 := Scalar.muli v942 c1_i32_635
  let v946 : BitVec 32 := Scalar.addi v944 v945
  v946.toNat
def k0_dev65 (d0 : Dev nD) : Nat :=
  let c0_i32_644 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_643 : BitVec 32 := 2#32
  let v958 : BitVec 32 := Scalar.muli v2 c2_i32_643
  let v959 : BitVec 32 := Scalar.addi c0_i32_644 v958
  let c1_i32_639 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v957 : BitVec 32 := Scalar.subi c1_i32_639 v5
  let c1_i32_645 : BitVec 32 := 1#32
  let v960 : BitVec 32 := Scalar.muli v957 c1_i32_645
  let v961 : BitVec 32 := Scalar.addi v959 v960
  v961.toNat
def k0_dev66 (d0 : Dev nD) : Nat :=
  let c0_i32_654 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_653 : BitVec 32 := 2#32
  let v973 : BitVec 32 := Scalar.muli v2 c2_i32_653
  let v974 : BitVec 32 := Scalar.addi c0_i32_654 v973
  let c1_i32_649 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v972 : BitVec 32 := Scalar.subi c1_i32_649 v5
  let c1_i32_655 : BitVec 32 := 1#32
  let v975 : BitVec 32 := Scalar.muli v972 c1_i32_655
  let v976 : BitVec 32 := Scalar.addi v974 v975
  v976.toNat
def k0_dev67 (d0 : Dev nD) : Nat :=
  let c0_i32_678 : BitVec 32 := 0#32
  let c1_i32_672 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1000 : BitVec 32 := Scalar.subi c1_i32_672 v2
  let c2_i32_677 : BitVec 32 := 2#32
  let v1001 : BitVec 32 := Scalar.muli v1000 c2_i32_677
  let v1002 : BitVec 32 := Scalar.addi c0_i32_678 v1001
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_679 : BitVec 32 := 1#32
  let v1003 : BitVec 32 := Scalar.muli v5 c1_i32_679
  let v1004 : BitVec 32 := Scalar.addi v1002 v1003
  v1004.toNat
def k0_dev68 (d0 : Dev nD) : Nat :=
  let c0_i32_702 : BitVec 32 := 0#32
  let c1_i32_696 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1028 : BitVec 32 := Scalar.subi c1_i32_696 v2
  let c2_i32_701 : BitVec 32 := 2#32
  let v1029 : BitVec 32 := Scalar.muli v1028 c2_i32_701
  let v1030 : BitVec 32 := Scalar.addi c0_i32_702 v1029
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_703 : BitVec 32 := 1#32
  let v1031 : BitVec 32 := Scalar.muli v5 c1_i32_703
  let v1032 : BitVec 32 := Scalar.addi v1030 v1031
  v1032.toNat
def k0_dev69 (d0 : Dev nD) : Nat :=
  let c0_i32_726 : BitVec 32 := 0#32
  let c1_i32_720 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1056 : BitVec 32 := Scalar.subi c1_i32_720 v2
  let c2_i32_725 : BitVec 32 := 2#32
  let v1057 : BitVec 32 := Scalar.muli v1056 c2_i32_725
  let v1058 : BitVec 32 := Scalar.addi c0_i32_726 v1057
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_727 : BitVec 32 := 1#32
  let v1059 : BitVec 32 := Scalar.muli v5 c1_i32_727
  let v1060 : BitVec 32 := Scalar.addi v1058 v1059
  v1060.toNat
def k0_dev70 (d0 : Dev nD) : Nat :=
  let c0_i32_750 : BitVec 32 := 0#32
  let c1_i32_744 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1084 : BitVec 32 := Scalar.subi c1_i32_744 v2
  let c2_i32_749 : BitVec 32 := 2#32
  let v1085 : BitVec 32 := Scalar.muli v1084 c2_i32_749
  let v1086 : BitVec 32 := Scalar.addi c0_i32_750 v1085
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_751 : BitVec 32 := 1#32
  let v1087 : BitVec 32 := Scalar.muli v5 c1_i32_751
  let v1088 : BitVec 32 := Scalar.addi v1086 v1087
  v1088.toNat
def k0_dev71 (d0 : Dev nD) : Nat :=
  let c0_i32_774 : BitVec 32 := 0#32
  let c1_i32_768 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1112 : BitVec 32 := Scalar.subi c1_i32_768 v2
  let c2_i32_773 : BitVec 32 := 2#32
  let v1113 : BitVec 32 := Scalar.muli v1112 c2_i32_773
  let v1114 : BitVec 32 := Scalar.addi c0_i32_774 v1113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_775 : BitVec 32 := 1#32
  let v1115 : BitVec 32 := Scalar.muli v5 c1_i32_775
  let v1116 : BitVec 32 := Scalar.addi v1114 v1115
  v1116.toNat
def k0_dev72 (d0 : Dev nD) : Nat :=
  let c0_i32_798 : BitVec 32 := 0#32
  let c1_i32_792 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1140 : BitVec 32 := Scalar.subi c1_i32_792 v2
  let c2_i32_797 : BitVec 32 := 2#32
  let v1141 : BitVec 32 := Scalar.muli v1140 c2_i32_797
  let v1142 : BitVec 32 := Scalar.addi c0_i32_798 v1141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_799 : BitVec 32 := 1#32
  let v1143 : BitVec 32 := Scalar.muli v5 c1_i32_799
  let v1144 : BitVec 32 := Scalar.addi v1142 v1143
  v1144.toNat
def k0_dev73 (d0 : Dev nD) : Nat :=
  let c0_i32_822 : BitVec 32 := 0#32
  let c1_i32_816 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1168 : BitVec 32 := Scalar.subi c1_i32_816 v2
  let c2_i32_821 : BitVec 32 := 2#32
  let v1169 : BitVec 32 := Scalar.muli v1168 c2_i32_821
  let v1170 : BitVec 32 := Scalar.addi c0_i32_822 v1169
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_823 : BitVec 32 := 1#32
  let v1171 : BitVec 32 := Scalar.muli v5 c1_i32_823
  let v1172 : BitVec 32 := Scalar.addi v1170 v1171
  v1172.toNat
def k0_dev74 (d0 : Dev nD) : Nat :=
  let c0_i32_846 : BitVec 32 := 0#32
  let c1_i32_840 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1196 : BitVec 32 := Scalar.subi c1_i32_840 v2
  let c2_i32_845 : BitVec 32 := 2#32
  let v1197 : BitVec 32 := Scalar.muli v1196 c2_i32_845
  let v1198 : BitVec 32 := Scalar.addi c0_i32_846 v1197
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_847 : BitVec 32 := 1#32
  let v1199 : BitVec 32 := Scalar.muli v5 c1_i32_847
  let v1200 : BitVec 32 := Scalar.addi v1198 v1199
  v1200.toNat
def k0_dev75 (d0 : Dev nD) : Nat :=
  let c0_i32_870 : BitVec 32 := 0#32
  let c1_i32_864 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1224 : BitVec 32 := Scalar.subi c1_i32_864 v2
  let c2_i32_869 : BitVec 32 := 2#32
  let v1225 : BitVec 32 := Scalar.muli v1224 c2_i32_869
  let v1226 : BitVec 32 := Scalar.addi c0_i32_870 v1225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_871 : BitVec 32 := 1#32
  let v1227 : BitVec 32 := Scalar.muli v5 c1_i32_871
  let v1228 : BitVec 32 := Scalar.addi v1226 v1227
  v1228.toNat
def k0_dev76 (d0 : Dev nD) : Nat :=
  let c0_i32_894 : BitVec 32 := 0#32
  let c1_i32_888 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1252 : BitVec 32 := Scalar.subi c1_i32_888 v2
  let c2_i32_893 : BitVec 32 := 2#32
  let v1253 : BitVec 32 := Scalar.muli v1252 c2_i32_893
  let v1254 : BitVec 32 := Scalar.addi c0_i32_894 v1253
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_895 : BitVec 32 := 1#32
  let v1255 : BitVec 32 := Scalar.muli v5 c1_i32_895
  let v1256 : BitVec 32 := Scalar.addi v1254 v1255
  v1256.toNat
def k0_dev77 (d0 : Dev nD) : Nat :=
  let c0_i32_918 : BitVec 32 := 0#32
  let c1_i32_912 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1280 : BitVec 32 := Scalar.subi c1_i32_912 v2
  let c2_i32_917 : BitVec 32 := 2#32
  let v1281 : BitVec 32 := Scalar.muli v1280 c2_i32_917
  let v1282 : BitVec 32 := Scalar.addi c0_i32_918 v1281
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_919 : BitVec 32 := 1#32
  let v1283 : BitVec 32 := Scalar.muli v5 c1_i32_919
  let v1284 : BitVec 32 := Scalar.addi v1282 v1283
  v1284.toNat
def k0_dev78 (d0 : Dev nD) : Nat :=
  let c0_i32_942 : BitVec 32 := 0#32
  let c1_i32_936 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1308 : BitVec 32 := Scalar.subi c1_i32_936 v2
  let c2_i32_941 : BitVec 32 := 2#32
  let v1309 : BitVec 32 := Scalar.muli v1308 c2_i32_941
  let v1310 : BitVec 32 := Scalar.addi c0_i32_942 v1309
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_943 : BitVec 32 := 1#32
  let v1311 : BitVec 32 := Scalar.muli v5 c1_i32_943
  let v1312 : BitVec 32 := Scalar.addi v1310 v1311
  v1312.toNat
def k0_dev79 (d0 : Dev nD) : Nat :=
  let c0_i32_966 : BitVec 32 := 0#32
  let c1_i32_960 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1336 : BitVec 32 := Scalar.subi c1_i32_960 v2
  let c2_i32_965 : BitVec 32 := 2#32
  let v1337 : BitVec 32 := Scalar.muli v1336 c2_i32_965
  let v1338 : BitVec 32 := Scalar.addi c0_i32_966 v1337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_967 : BitVec 32 := 1#32
  let v1339 : BitVec 32 := Scalar.muli v5 c1_i32_967
  let v1340 : BitVec 32 := Scalar.addi v1338 v1339
  v1340.toNat
def k0_dev80 (d0 : Dev nD) : Nat :=
  let c0_i32_990 : BitVec 32 := 0#32
  let c1_i32_984 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1364 : BitVec 32 := Scalar.subi c1_i32_984 v2
  let c2_i32_989 : BitVec 32 := 2#32
  let v1365 : BitVec 32 := Scalar.muli v1364 c2_i32_989
  let v1366 : BitVec 32 := Scalar.addi c0_i32_990 v1365
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_991 : BitVec 32 := 1#32
  let v1367 : BitVec 32 := Scalar.muli v5 c1_i32_991
  let v1368 : BitVec 32 := Scalar.addi v1366 v1367
  v1368.toNat
def k0_dev81 (d0 : Dev nD) : Nat :=
  let c0_i32_1014 : BitVec 32 := 0#32
  let c1_i32_1008 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1392 : BitVec 32 := Scalar.subi c1_i32_1008 v2
  let c2_i32_1013 : BitVec 32 := 2#32
  let v1393 : BitVec 32 := Scalar.muli v1392 c2_i32_1013
  let v1394 : BitVec 32 := Scalar.addi c0_i32_1014 v1393
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1015 : BitVec 32 := 1#32
  let v1395 : BitVec 32 := Scalar.muli v5 c1_i32_1015
  let v1396 : BitVec 32 := Scalar.addi v1394 v1395
  v1396.toNat
def k0_dev82 (d0 : Dev nD) : Nat :=
  let c0_i32_1038 : BitVec 32 := 0#32
  let c1_i32_1032 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1420 : BitVec 32 := Scalar.subi c1_i32_1032 v2
  let c2_i32_1037 : BitVec 32 := 2#32
  let v1421 : BitVec 32 := Scalar.muli v1420 c2_i32_1037
  let v1422 : BitVec 32 := Scalar.addi c0_i32_1038 v1421
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1039 : BitVec 32 := 1#32
  let v1423 : BitVec 32 := Scalar.muli v5 c1_i32_1039
  let v1424 : BitVec 32 := Scalar.addi v1422 v1423
  v1424.toNat
def k0_dev83 (d0 : Dev nD) : Nat :=
  let c0_i32_1062 : BitVec 32 := 0#32
  let c1_i32_1056 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1448 : BitVec 32 := Scalar.subi c1_i32_1056 v2
  let c2_i32_1061 : BitVec 32 := 2#32
  let v1449 : BitVec 32 := Scalar.muli v1448 c2_i32_1061
  let v1450 : BitVec 32 := Scalar.addi c0_i32_1062 v1449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1063 : BitVec 32 := 1#32
  let v1451 : BitVec 32 := Scalar.muli v5 c1_i32_1063
  let v1452 : BitVec 32 := Scalar.addi v1450 v1451
  v1452.toNat
def k0_dev84 (d0 : Dev nD) : Nat :=
  let c0_i32_1086 : BitVec 32 := 0#32
  let c1_i32_1080 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1476 : BitVec 32 := Scalar.subi c1_i32_1080 v2
  let c2_i32_1085 : BitVec 32 := 2#32
  let v1477 : BitVec 32 := Scalar.muli v1476 c2_i32_1085
  let v1478 : BitVec 32 := Scalar.addi c0_i32_1086 v1477
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1087 : BitVec 32 := 1#32
  let v1479 : BitVec 32 := Scalar.muli v5 c1_i32_1087
  let v1480 : BitVec 32 := Scalar.addi v1478 v1479
  v1480.toNat
def k0_dev85 (d0 : Dev nD) : Nat :=
  let c0_i32_1110 : BitVec 32 := 0#32
  let c1_i32_1104 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1504 : BitVec 32 := Scalar.subi c1_i32_1104 v2
  let c2_i32_1109 : BitVec 32 := 2#32
  let v1505 : BitVec 32 := Scalar.muli v1504 c2_i32_1109
  let v1506 : BitVec 32 := Scalar.addi c0_i32_1110 v1505
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1111 : BitVec 32 := 1#32
  let v1507 : BitVec 32 := Scalar.muli v5 c1_i32_1111
  let v1508 : BitVec 32 := Scalar.addi v1506 v1507
  v1508.toNat
def k0_dev86 (d0 : Dev nD) : Nat :=
  let c0_i32_1134 : BitVec 32 := 0#32
  let c1_i32_1128 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1532 : BitVec 32 := Scalar.subi c1_i32_1128 v2
  let c2_i32_1133 : BitVec 32 := 2#32
  let v1533 : BitVec 32 := Scalar.muli v1532 c2_i32_1133
  let v1534 : BitVec 32 := Scalar.addi c0_i32_1134 v1533
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1135 : BitVec 32 := 1#32
  let v1535 : BitVec 32 := Scalar.muli v5 c1_i32_1135
  let v1536 : BitVec 32 := Scalar.addi v1534 v1535
  v1536.toNat
def k0_dev87 (d0 : Dev nD) : Nat :=
  let c0_i32_1158 : BitVec 32 := 0#32
  let c1_i32_1152 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1560 : BitVec 32 := Scalar.subi c1_i32_1152 v2
  let c2_i32_1157 : BitVec 32 := 2#32
  let v1561 : BitVec 32 := Scalar.muli v1560 c2_i32_1157
  let v1562 : BitVec 32 := Scalar.addi c0_i32_1158 v1561
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1159 : BitVec 32 := 1#32
  let v1563 : BitVec 32 := Scalar.muli v5 c1_i32_1159
  let v1564 : BitVec 32 := Scalar.addi v1562 v1563
  v1564.toNat
def k0_dev88 (d0 : Dev nD) : Nat :=
  let c0_i32_1182 : BitVec 32 := 0#32
  let c1_i32_1176 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1588 : BitVec 32 := Scalar.subi c1_i32_1176 v2
  let c2_i32_1181 : BitVec 32 := 2#32
  let v1589 : BitVec 32 := Scalar.muli v1588 c2_i32_1181
  let v1590 : BitVec 32 := Scalar.addi c0_i32_1182 v1589
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1183 : BitVec 32 := 1#32
  let v1591 : BitVec 32 := Scalar.muli v5 c1_i32_1183
  let v1592 : BitVec 32 := Scalar.addi v1590 v1591
  v1592.toNat
def k0_dev89 (d0 : Dev nD) : Nat :=
  let c0_i32_1206 : BitVec 32 := 0#32
  let c1_i32_1200 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1616 : BitVec 32 := Scalar.subi c1_i32_1200 v2
  let c2_i32_1205 : BitVec 32 := 2#32
  let v1617 : BitVec 32 := Scalar.muli v1616 c2_i32_1205
  let v1618 : BitVec 32 := Scalar.addi c0_i32_1206 v1617
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1207 : BitVec 32 := 1#32
  let v1619 : BitVec 32 := Scalar.muli v5 c1_i32_1207
  let v1620 : BitVec 32 := Scalar.addi v1618 v1619
  v1620.toNat
def k0_dev90 (d0 : Dev nD) : Nat :=
  let c0_i32_1230 : BitVec 32 := 0#32
  let c1_i32_1224 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1644 : BitVec 32 := Scalar.subi c1_i32_1224 v2
  let c2_i32_1229 : BitVec 32 := 2#32
  let v1645 : BitVec 32 := Scalar.muli v1644 c2_i32_1229
  let v1646 : BitVec 32 := Scalar.addi c0_i32_1230 v1645
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1231 : BitVec 32 := 1#32
  let v1647 : BitVec 32 := Scalar.muli v5 c1_i32_1231
  let v1648 : BitVec 32 := Scalar.addi v1646 v1647
  v1648.toNat
def k0_dev91 (d0 : Dev nD) : Nat :=
  let c0_i32_1254 : BitVec 32 := 0#32
  let c1_i32_1248 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1672 : BitVec 32 := Scalar.subi c1_i32_1248 v2
  let c2_i32_1253 : BitVec 32 := 2#32
  let v1673 : BitVec 32 := Scalar.muli v1672 c2_i32_1253
  let v1674 : BitVec 32 := Scalar.addi c0_i32_1254 v1673
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1255 : BitVec 32 := 1#32
  let v1675 : BitVec 32 := Scalar.muli v5 c1_i32_1255
  let v1676 : BitVec 32 := Scalar.addi v1674 v1675
  v1676.toNat
def k0_dev92 (d0 : Dev nD) : Nat :=
  let c0_i32_1278 : BitVec 32 := 0#32
  let c1_i32_1272 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1700 : BitVec 32 := Scalar.subi c1_i32_1272 v2
  let c2_i32_1277 : BitVec 32 := 2#32
  let v1701 : BitVec 32 := Scalar.muli v1700 c2_i32_1277
  let v1702 : BitVec 32 := Scalar.addi c0_i32_1278 v1701
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1279 : BitVec 32 := 1#32
  let v1703 : BitVec 32 := Scalar.muli v5 c1_i32_1279
  let v1704 : BitVec 32 := Scalar.addi v1702 v1703
  v1704.toNat
def k0_dev93 (d0 : Dev nD) : Nat :=
  let c0_i32_1302 : BitVec 32 := 0#32
  let c1_i32_1296 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1728 : BitVec 32 := Scalar.subi c1_i32_1296 v2
  let c2_i32_1301 : BitVec 32 := 2#32
  let v1729 : BitVec 32 := Scalar.muli v1728 c2_i32_1301
  let v1730 : BitVec 32 := Scalar.addi c0_i32_1302 v1729
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1303 : BitVec 32 := 1#32
  let v1731 : BitVec 32 := Scalar.muli v5 c1_i32_1303
  let v1732 : BitVec 32 := Scalar.addi v1730 v1731
  v1732.toNat
def k0_dev94 (d0 : Dev nD) : Nat :=
  let c0_i32_1326 : BitVec 32 := 0#32
  let c1_i32_1320 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1756 : BitVec 32 := Scalar.subi c1_i32_1320 v2
  let c2_i32_1325 : BitVec 32 := 2#32
  let v1757 : BitVec 32 := Scalar.muli v1756 c2_i32_1325
  let v1758 : BitVec 32 := Scalar.addi c0_i32_1326 v1757
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1327 : BitVec 32 := 1#32
  let v1759 : BitVec 32 := Scalar.muli v5 c1_i32_1327
  let v1760 : BitVec 32 := Scalar.addi v1758 v1759
  v1760.toNat
def k0_dev95 (d0 : Dev nD) : Nat :=
  let c0_i32_1350 : BitVec 32 := 0#32
  let c1_i32_1344 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1784 : BitVec 32 := Scalar.subi c1_i32_1344 v2
  let c2_i32_1349 : BitVec 32 := 2#32
  let v1785 : BitVec 32 := Scalar.muli v1784 c2_i32_1349
  let v1786 : BitVec 32 := Scalar.addi c0_i32_1350 v1785
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1351 : BitVec 32 := 1#32
  let v1787 : BitVec 32 := Scalar.muli v5 c1_i32_1351
  let v1788 : BitVec 32 := Scalar.addi v1786 v1787
  v1788.toNat
def k0_dev96 (d0 : Dev nD) : Nat :=
  let c0_i32_1374 : BitVec 32 := 0#32
  let c1_i32_1368 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1812 : BitVec 32 := Scalar.subi c1_i32_1368 v2
  let c2_i32_1373 : BitVec 32 := 2#32
  let v1813 : BitVec 32 := Scalar.muli v1812 c2_i32_1373
  let v1814 : BitVec 32 := Scalar.addi c0_i32_1374 v1813
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1375 : BitVec 32 := 1#32
  let v1815 : BitVec 32 := Scalar.muli v5 c1_i32_1375
  let v1816 : BitVec 32 := Scalar.addi v1814 v1815
  v1816.toNat
def k0_dev97 (d0 : Dev nD) : Nat :=
  let c0_i32_1398 : BitVec 32 := 0#32
  let c1_i32_1392 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1840 : BitVec 32 := Scalar.subi c1_i32_1392 v2
  let c2_i32_1397 : BitVec 32 := 2#32
  let v1841 : BitVec 32 := Scalar.muli v1840 c2_i32_1397
  let v1842 : BitVec 32 := Scalar.addi c0_i32_1398 v1841
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1399 : BitVec 32 := 1#32
  let v1843 : BitVec 32 := Scalar.muli v5 c1_i32_1399
  let v1844 : BitVec 32 := Scalar.addi v1842 v1843
  v1844.toNat
def k0_dev98 (d0 : Dev nD) : Nat :=
  let c0_i32_1422 : BitVec 32 := 0#32
  let c1_i32_1416 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1868 : BitVec 32 := Scalar.subi c1_i32_1416 v2
  let c2_i32_1421 : BitVec 32 := 2#32
  let v1869 : BitVec 32 := Scalar.muli v1868 c2_i32_1421
  let v1870 : BitVec 32 := Scalar.addi c0_i32_1422 v1869
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1423 : BitVec 32 := 1#32
  let v1871 : BitVec 32 := Scalar.muli v5 c1_i32_1423
  let v1872 : BitVec 32 := Scalar.addi v1870 v1871
  v1872.toNat
def k0_dev99 (d0 : Dev nD) : Nat :=
  let c0_i32_1446 : BitVec 32 := 0#32
  let c1_i32_1440 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1896 : BitVec 32 := Scalar.subi c1_i32_1440 v2
  let c2_i32_1445 : BitVec 32 := 2#32
  let v1897 : BitVec 32 := Scalar.muli v1896 c2_i32_1445
  let v1898 : BitVec 32 := Scalar.addi c0_i32_1446 v1897
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1447 : BitVec 32 := 1#32
  let v1899 : BitVec 32 := Scalar.muli v5 c1_i32_1447
  let v1900 : BitVec 32 := Scalar.addi v1898 v1899
  v1900.toNat
def k0_dev100 (d0 : Dev nD) : Nat :=
  let c0_i32_1470 : BitVec 32 := 0#32
  let c1_i32_1464 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1924 : BitVec 32 := Scalar.subi c1_i32_1464 v2
  let c2_i32_1469 : BitVec 32 := 2#32
  let v1925 : BitVec 32 := Scalar.muli v1924 c2_i32_1469
  let v1926 : BitVec 32 := Scalar.addi c0_i32_1470 v1925
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1471 : BitVec 32 := 1#32
  let v1927 : BitVec 32 := Scalar.muli v5 c1_i32_1471
  let v1928 : BitVec 32 := Scalar.addi v1926 v1927
  v1928.toNat
def k0_dev101 (d0 : Dev nD) : Nat :=
  let c0_i32_1494 : BitVec 32 := 0#32
  let c1_i32_1488 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1952 : BitVec 32 := Scalar.subi c1_i32_1488 v2
  let c2_i32_1493 : BitVec 32 := 2#32
  let v1953 : BitVec 32 := Scalar.muli v1952 c2_i32_1493
  let v1954 : BitVec 32 := Scalar.addi c0_i32_1494 v1953
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1495 : BitVec 32 := 1#32
  let v1955 : BitVec 32 := Scalar.muli v5 c1_i32_1495
  let v1956 : BitVec 32 := Scalar.addi v1954 v1955
  v1956.toNat
def k0_dev102 (d0 : Dev nD) : Nat :=
  let c0_i32_1518 : BitVec 32 := 0#32
  let c1_i32_1512 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1980 : BitVec 32 := Scalar.subi c1_i32_1512 v2
  let c2_i32_1517 : BitVec 32 := 2#32
  let v1981 : BitVec 32 := Scalar.muli v1980 c2_i32_1517
  let v1982 : BitVec 32 := Scalar.addi c0_i32_1518 v1981
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1519 : BitVec 32 := 1#32
  let v1983 : BitVec 32 := Scalar.muli v5 c1_i32_1519
  let v1984 : BitVec 32 := Scalar.addi v1982 v1983
  v1984.toNat
def k0_dev103 (d0 : Dev nD) : Nat :=
  let c0_i32_1542 : BitVec 32 := 0#32
  let c1_i32_1536 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2008 : BitVec 32 := Scalar.subi c1_i32_1536 v2
  let c2_i32_1541 : BitVec 32 := 2#32
  let v2009 : BitVec 32 := Scalar.muli v2008 c2_i32_1541
  let v2010 : BitVec 32 := Scalar.addi c0_i32_1542 v2009
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2011 : BitVec 32 := Scalar.muli v5 c1_i32_1543
  let v2012 : BitVec 32 := Scalar.addi v2010 v2011
  v2012.toNat
def k0_dev104 (d0 : Dev nD) : Nat :=
  let c0_i32_1566 : BitVec 32 := 0#32
  let c1_i32_1560 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2036 : BitVec 32 := Scalar.subi c1_i32_1560 v2
  let c2_i32_1565 : BitVec 32 := 2#32
  let v2037 : BitVec 32 := Scalar.muli v2036 c2_i32_1565
  let v2038 : BitVec 32 := Scalar.addi c0_i32_1566 v2037
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1567 : BitVec 32 := 1#32
  let v2039 : BitVec 32 := Scalar.muli v5 c1_i32_1567
  let v2040 : BitVec 32 := Scalar.addi v2038 v2039
  v2040.toNat
def k0_dev105 (d0 : Dev nD) : Nat :=
  let c0_i32_1590 : BitVec 32 := 0#32
  let c1_i32_1584 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2064 : BitVec 32 := Scalar.subi c1_i32_1584 v2
  let c2_i32_1589 : BitVec 32 := 2#32
  let v2065 : BitVec 32 := Scalar.muli v2064 c2_i32_1589
  let v2066 : BitVec 32 := Scalar.addi c0_i32_1590 v2065
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1591 : BitVec 32 := 1#32
  let v2067 : BitVec 32 := Scalar.muli v5 c1_i32_1591
  let v2068 : BitVec 32 := Scalar.addi v2066 v2067
  v2068.toNat
def k0_dev106 (d0 : Dev nD) : Nat :=
  let c0_i32_1614 : BitVec 32 := 0#32
  let c1_i32_1608 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2092 : BitVec 32 := Scalar.subi c1_i32_1608 v2
  let c2_i32_1613 : BitVec 32 := 2#32
  let v2093 : BitVec 32 := Scalar.muli v2092 c2_i32_1613
  let v2094 : BitVec 32 := Scalar.addi c0_i32_1614 v2093
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1615 : BitVec 32 := 1#32
  let v2095 : BitVec 32 := Scalar.muli v5 c1_i32_1615
  let v2096 : BitVec 32 := Scalar.addi v2094 v2095
  v2096.toNat
def k0_dev107 (d0 : Dev nD) : Nat :=
  let c0_i32_1638 : BitVec 32 := 0#32
  let c1_i32_1632 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2120 : BitVec 32 := Scalar.subi c1_i32_1632 v2
  let c2_i32_1637 : BitVec 32 := 2#32
  let v2121 : BitVec 32 := Scalar.muli v2120 c2_i32_1637
  let v2122 : BitVec 32 := Scalar.addi c0_i32_1638 v2121
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1639 : BitVec 32 := 1#32
  let v2123 : BitVec 32 := Scalar.muli v5 c1_i32_1639
  let v2124 : BitVec 32 := Scalar.addi v2122 v2123
  v2124.toNat
def k0_dev108 (d0 : Dev nD) : Nat :=
  let c0_i32_1662 : BitVec 32 := 0#32
  let c1_i32_1656 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2148 : BitVec 32 := Scalar.subi c1_i32_1656 v2
  let c2_i32_1661 : BitVec 32 := 2#32
  let v2149 : BitVec 32 := Scalar.muli v2148 c2_i32_1661
  let v2150 : BitVec 32 := Scalar.addi c0_i32_1662 v2149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1663 : BitVec 32 := 1#32
  let v2151 : BitVec 32 := Scalar.muli v5 c1_i32_1663
  let v2152 : BitVec 32 := Scalar.addi v2150 v2151
  v2152.toNat
def k0_dev109 (d0 : Dev nD) : Nat :=
  let c0_i32_1686 : BitVec 32 := 0#32
  let c1_i32_1680 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2176 : BitVec 32 := Scalar.subi c1_i32_1680 v2
  let c2_i32_1685 : BitVec 32 := 2#32
  let v2177 : BitVec 32 := Scalar.muli v2176 c2_i32_1685
  let v2178 : BitVec 32 := Scalar.addi c0_i32_1686 v2177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1687 : BitVec 32 := 1#32
  let v2179 : BitVec 32 := Scalar.muli v5 c1_i32_1687
  let v2180 : BitVec 32 := Scalar.addi v2178 v2179
  v2180.toNat
def k0_dev110 (d0 : Dev nD) : Nat :=
  let c0_i32_1710 : BitVec 32 := 0#32
  let c1_i32_1704 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2204 : BitVec 32 := Scalar.subi c1_i32_1704 v2
  let c2_i32_1709 : BitVec 32 := 2#32
  let v2205 : BitVec 32 := Scalar.muli v2204 c2_i32_1709
  let v2206 : BitVec 32 := Scalar.addi c0_i32_1710 v2205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1711 : BitVec 32 := 1#32
  let v2207 : BitVec 32 := Scalar.muli v5 c1_i32_1711
  let v2208 : BitVec 32 := Scalar.addi v2206 v2207
  v2208.toNat
def k0_dev111 (d0 : Dev nD) : Nat :=
  let c0_i32_1734 : BitVec 32 := 0#32
  let c1_i32_1728 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2232 : BitVec 32 := Scalar.subi c1_i32_1728 v2
  let c2_i32_1733 : BitVec 32 := 2#32
  let v2233 : BitVec 32 := Scalar.muli v2232 c2_i32_1733
  let v2234 : BitVec 32 := Scalar.addi c0_i32_1734 v2233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1735 : BitVec 32 := 1#32
  let v2235 : BitVec 32 := Scalar.muli v5 c1_i32_1735
  let v2236 : BitVec 32 := Scalar.addi v2234 v2235
  v2236.toNat
def k0_dev112 (d0 : Dev nD) : Nat :=
  let c0_i32_1758 : BitVec 32 := 0#32
  let c1_i32_1752 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2260 : BitVec 32 := Scalar.subi c1_i32_1752 v2
  let c2_i32_1757 : BitVec 32 := 2#32
  let v2261 : BitVec 32 := Scalar.muli v2260 c2_i32_1757
  let v2262 : BitVec 32 := Scalar.addi c0_i32_1758 v2261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1759 : BitVec 32 := 1#32
  let v2263 : BitVec 32 := Scalar.muli v5 c1_i32_1759
  let v2264 : BitVec 32 := Scalar.addi v2262 v2263
  v2264.toNat
def k0_dev113 (d0 : Dev nD) : Nat :=
  let c0_i32_1782 : BitVec 32 := 0#32
  let c1_i32_1776 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2288 : BitVec 32 := Scalar.subi c1_i32_1776 v2
  let c2_i32_1781 : BitVec 32 := 2#32
  let v2289 : BitVec 32 := Scalar.muli v2288 c2_i32_1781
  let v2290 : BitVec 32 := Scalar.addi c0_i32_1782 v2289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1783 : BitVec 32 := 1#32
  let v2291 : BitVec 32 := Scalar.muli v5 c1_i32_1783
  let v2292 : BitVec 32 := Scalar.addi v2290 v2291
  v2292.toNat
def k0_dev114 (d0 : Dev nD) : Nat :=
  let c0_i32_1806 : BitVec 32 := 0#32
  let c1_i32_1800 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2316 : BitVec 32 := Scalar.subi c1_i32_1800 v2
  let c2_i32_1805 : BitVec 32 := 2#32
  let v2317 : BitVec 32 := Scalar.muli v2316 c2_i32_1805
  let v2318 : BitVec 32 := Scalar.addi c0_i32_1806 v2317
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1807 : BitVec 32 := 1#32
  let v2319 : BitVec 32 := Scalar.muli v5 c1_i32_1807
  let v2320 : BitVec 32 := Scalar.addi v2318 v2319
  v2320.toNat
def k0_dev115 (d0 : Dev nD) : Nat :=
  let c0_i32_1830 : BitVec 32 := 0#32
  let c1_i32_1824 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2344 : BitVec 32 := Scalar.subi c1_i32_1824 v2
  let c2_i32_1829 : BitVec 32 := 2#32
  let v2345 : BitVec 32 := Scalar.muli v2344 c2_i32_1829
  let v2346 : BitVec 32 := Scalar.addi c0_i32_1830 v2345
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1831 : BitVec 32 := 1#32
  let v2347 : BitVec 32 := Scalar.muli v5 c1_i32_1831
  let v2348 : BitVec 32 := Scalar.addi v2346 v2347
  v2348.toNat
def k0_dev116 (d0 : Dev nD) : Nat :=
  let c0_i32_1854 : BitVec 32 := 0#32
  let c1_i32_1848 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2372 : BitVec 32 := Scalar.subi c1_i32_1848 v2
  let c2_i32_1853 : BitVec 32 := 2#32
  let v2373 : BitVec 32 := Scalar.muli v2372 c2_i32_1853
  let v2374 : BitVec 32 := Scalar.addi c0_i32_1854 v2373
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1855 : BitVec 32 := 1#32
  let v2375 : BitVec 32 := Scalar.muli v5 c1_i32_1855
  let v2376 : BitVec 32 := Scalar.addi v2374 v2375
  v2376.toNat
def k0_dev117 (d0 : Dev nD) : Nat :=
  let c0_i32_1878 : BitVec 32 := 0#32
  let c1_i32_1872 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2400 : BitVec 32 := Scalar.subi c1_i32_1872 v2
  let c2_i32_1877 : BitVec 32 := 2#32
  let v2401 : BitVec 32 := Scalar.muli v2400 c2_i32_1877
  let v2402 : BitVec 32 := Scalar.addi c0_i32_1878 v2401
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1879 : BitVec 32 := 1#32
  let v2403 : BitVec 32 := Scalar.muli v5 c1_i32_1879
  let v2404 : BitVec 32 := Scalar.addi v2402 v2403
  v2404.toNat
def k0_dev118 (d0 : Dev nD) : Nat :=
  let c0_i32_1902 : BitVec 32 := 0#32
  let c1_i32_1896 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2428 : BitVec 32 := Scalar.subi c1_i32_1896 v2
  let c2_i32_1901 : BitVec 32 := 2#32
  let v2429 : BitVec 32 := Scalar.muli v2428 c2_i32_1901
  let v2430 : BitVec 32 := Scalar.addi c0_i32_1902 v2429
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1903 : BitVec 32 := 1#32
  let v2431 : BitVec 32 := Scalar.muli v5 c1_i32_1903
  let v2432 : BitVec 32 := Scalar.addi v2430 v2431
  v2432.toNat
def k0_dev119 (d0 : Dev nD) : Nat :=
  let c0_i32_1926 : BitVec 32 := 0#32
  let c1_i32_1920 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2456 : BitVec 32 := Scalar.subi c1_i32_1920 v2
  let c2_i32_1925 : BitVec 32 := 2#32
  let v2457 : BitVec 32 := Scalar.muli v2456 c2_i32_1925
  let v2458 : BitVec 32 := Scalar.addi c0_i32_1926 v2457
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1927 : BitVec 32 := 1#32
  let v2459 : BitVec 32 := Scalar.muli v5 c1_i32_1927
  let v2460 : BitVec 32 := Scalar.addi v2458 v2459
  v2460.toNat
def k0_dev120 (d0 : Dev nD) : Nat :=
  let c0_i32_1950 : BitVec 32 := 0#32
  let c1_i32_1944 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2484 : BitVec 32 := Scalar.subi c1_i32_1944 v2
  let c2_i32_1949 : BitVec 32 := 2#32
  let v2485 : BitVec 32 := Scalar.muli v2484 c2_i32_1949
  let v2486 : BitVec 32 := Scalar.addi c0_i32_1950 v2485
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1951 : BitVec 32 := 1#32
  let v2487 : BitVec 32 := Scalar.muli v5 c1_i32_1951
  let v2488 : BitVec 32 := Scalar.addi v2486 v2487
  v2488.toNat
def k0_dev121 (d0 : Dev nD) : Nat :=
  let c0_i32_1974 : BitVec 32 := 0#32
  let c1_i32_1968 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2512 : BitVec 32 := Scalar.subi c1_i32_1968 v2
  let c2_i32_1973 : BitVec 32 := 2#32
  let v2513 : BitVec 32 := Scalar.muli v2512 c2_i32_1973
  let v2514 : BitVec 32 := Scalar.addi c0_i32_1974 v2513
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1975 : BitVec 32 := 1#32
  let v2515 : BitVec 32 := Scalar.muli v5 c1_i32_1975
  let v2516 : BitVec 32 := Scalar.addi v2514 v2515
  v2516.toNat
def k0_dev122 (d0 : Dev nD) : Nat :=
  let c0_i32_1998 : BitVec 32 := 0#32
  let c1_i32_1992 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2540 : BitVec 32 := Scalar.subi c1_i32_1992 v2
  let c2_i32_1997 : BitVec 32 := 2#32
  let v2541 : BitVec 32 := Scalar.muli v2540 c2_i32_1997
  let v2542 : BitVec 32 := Scalar.addi c0_i32_1998 v2541
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1999 : BitVec 32 := 1#32
  let v2543 : BitVec 32 := Scalar.muli v5 c1_i32_1999
  let v2544 : BitVec 32 := Scalar.addi v2542 v2543
  v2544.toNat
def k0_dev123 (d0 : Dev nD) : Nat :=
  let c0_i32_2022 : BitVec 32 := 0#32
  let c1_i32_2016 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2568 : BitVec 32 := Scalar.subi c1_i32_2016 v2
  let c2_i32_2021 : BitVec 32 := 2#32
  let v2569 : BitVec 32 := Scalar.muli v2568 c2_i32_2021
  let v2570 : BitVec 32 := Scalar.addi c0_i32_2022 v2569
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2023 : BitVec 32 := 1#32
  let v2571 : BitVec 32 := Scalar.muli v5 c1_i32_2023
  let v2572 : BitVec 32 := Scalar.addi v2570 v2571
  v2572.toNat
def k0_dev124 (d0 : Dev nD) : Nat :=
  let c0_i32_2046 : BitVec 32 := 0#32
  let c1_i32_2040 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2596 : BitVec 32 := Scalar.subi c1_i32_2040 v2
  let c2_i32_2045 : BitVec 32 := 2#32
  let v2597 : BitVec 32 := Scalar.muli v2596 c2_i32_2045
  let v2598 : BitVec 32 := Scalar.addi c0_i32_2046 v2597
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2047 : BitVec 32 := 1#32
  let v2599 : BitVec 32 := Scalar.muli v5 c1_i32_2047
  let v2600 : BitVec 32 := Scalar.addi v2598 v2599
  v2600.toNat
def k0_dev125 (d0 : Dev nD) : Nat :=
  let c0_i32_2070 : BitVec 32 := 0#32
  let c1_i32_2064 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2624 : BitVec 32 := Scalar.subi c1_i32_2064 v2
  let c2_i32_2069 : BitVec 32 := 2#32
  let v2625 : BitVec 32 := Scalar.muli v2624 c2_i32_2069
  let v2626 : BitVec 32 := Scalar.addi c0_i32_2070 v2625
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2071 : BitVec 32 := 1#32
  let v2627 : BitVec 32 := Scalar.muli v5 c1_i32_2071
  let v2628 : BitVec 32 := Scalar.addi v2626 v2627
  v2628.toNat
def k0_dev126 (d0 : Dev nD) : Nat :=
  let c0_i32_2094 : BitVec 32 := 0#32
  let c1_i32_2088 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2652 : BitVec 32 := Scalar.subi c1_i32_2088 v2
  let c2_i32_2093 : BitVec 32 := 2#32
  let v2653 : BitVec 32 := Scalar.muli v2652 c2_i32_2093
  let v2654 : BitVec 32 := Scalar.addi c0_i32_2094 v2653
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2095 : BitVec 32 := 1#32
  let v2655 : BitVec 32 := Scalar.muli v5 c1_i32_2095
  let v2656 : BitVec 32 := Scalar.addi v2654 v2655
  v2656.toNat
def k0_dev127 (d0 : Dev nD) : Nat :=
  let c0_i32_2118 : BitVec 32 := 0#32
  let c1_i32_2112 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2680 : BitVec 32 := Scalar.subi c1_i32_2112 v2
  let c2_i32_2117 : BitVec 32 := 2#32
  let v2681 : BitVec 32 := Scalar.muli v2680 c2_i32_2117
  let v2682 : BitVec 32 := Scalar.addi c0_i32_2118 v2681
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2119 : BitVec 32 := 1#32
  let v2683 : BitVec 32 := Scalar.muli v5 c1_i32_2119
  let v2684 : BitVec 32 := Scalar.addi v2682 v2683
  v2684.toNat
def k0_dev128 (d0 : Dev nD) : Nat :=
  let c0_i32_2142 : BitVec 32 := 0#32
  let c1_i32_2136 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2708 : BitVec 32 := Scalar.subi c1_i32_2136 v2
  let c2_i32_2141 : BitVec 32 := 2#32
  let v2709 : BitVec 32 := Scalar.muli v2708 c2_i32_2141
  let v2710 : BitVec 32 := Scalar.addi c0_i32_2142 v2709
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2143 : BitVec 32 := 1#32
  let v2711 : BitVec 32 := Scalar.muli v5 c1_i32_2143
  let v2712 : BitVec 32 := Scalar.addi v2710 v2711
  v2712.toNat
def k0_dev129 (d0 : Dev nD) : Nat :=
  let c0_i32_2166 : BitVec 32 := 0#32
  let c1_i32_2160 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2736 : BitVec 32 := Scalar.subi c1_i32_2160 v2
  let c2_i32_2165 : BitVec 32 := 2#32
  let v2737 : BitVec 32 := Scalar.muli v2736 c2_i32_2165
  let v2738 : BitVec 32 := Scalar.addi c0_i32_2166 v2737
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2167 : BitVec 32 := 1#32
  let v2739 : BitVec 32 := Scalar.muli v5 c1_i32_2167
  let v2740 : BitVec 32 := Scalar.addi v2738 v2739
  v2740.toNat
def k0_dev130 (d0 : Dev nD) : Nat :=
  let c0_i32_2190 : BitVec 32 := 0#32
  let c1_i32_2184 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2764 : BitVec 32 := Scalar.subi c1_i32_2184 v2
  let c2_i32_2189 : BitVec 32 := 2#32
  let v2765 : BitVec 32 := Scalar.muli v2764 c2_i32_2189
  let v2766 : BitVec 32 := Scalar.addi c0_i32_2190 v2765
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2191 : BitVec 32 := 1#32
  let v2767 : BitVec 32 := Scalar.muli v5 c1_i32_2191
  let v2768 : BitVec 32 := Scalar.addi v2766 v2767
  v2768.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Compact.lean ====
/-
# The kernel's body as four loops over the chunks

The printed body writes out the 64 chunks of the exchange one after the other. Here it is rewritten as four loops over a
chunk number `i < 64`, each of one or two operations, and the printed text is shown to be exactly those loops.
-/
module

public import proofs.«01_k».proof.Proof.Gen.KernelIdeal
public import proofs.«01_k».proof.Proof.Gen.KernelIdeal.Launch
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL.Sem

variable {F : FTy → Type} [FloatOps F]

/-- A program of the kernel. -/
abbrev KProg (F : FTy → Type) (α : Type) : Type 1 := Prog (TpuEff nD τ sig (Elt F) Λ₀ .tc) α

/-- The argument `x` and the result, whole, in HBM. -/
abbrev xM : Memref sig .tc .hbm S1x4096x2048 .f32 := Memref.whole main_arg0
abbrev oM : Memref sig .tc .hbm S1x4096x2048 .f32 := Memref.whole main_v1

/-- Rows `[2048 * x + 32 * i, + 32)` of a block, `x` the device's place along the first mesh axis: chunk `i` of its half. -/
abbrev chunkR (c : Dev nD) (i : Fin 64) : Rect S1x4096x2048 :=
  Rect.unit (s := S1x4096x2048) (k0_off2 c (BitVec.ofNat 32 (32 * i.val))) S1x32x2048.size (k0_off2_inb c i)
abbrev chunk (M : Memref sig .tc .hbm S1x4096x2048 .f32) (c : Dev nD) (i : Fin 64) : Memref sig .tc .hbm S32x2048 .f32 :=
  (M.slice (chunkR c i) (fun _ => rfl)).squeeze S32x2048 squeezes_S1x32x2048_S32x2048

theorem inb64 (i : Fin 64) : ∀ a, (![i.val] : Fin 1 → Nat) a + S1.size a ≤ S64.size a := by revert i; decide +kernel

/-- Semaphore `i` of an array of 64. -/
abbrev semAt (A : DmaSems sig S64) (i : Fin 64) : DmaSem sig :=
  ((A.slice (Rect.unit (s := S64) ![i.val] S1.size (inb64 i))).squeeze S_ squeezes_S1_S_).sem

abbrev ysS (i : Fin 64) : DmaSem sig := semAt cc0_scratch0 i
abbrev yrS (i : Fin 64) : DmaSem sig := semAt cc0_scratch1 i
abbrev xsS (i : Fin 64) : DmaSem sig := semAt cc0_scratch2 i
abbrev xrS (i : Fin 64) : DmaSem sig := semAt cc0_scratch3 i
abbrev cpS : DmaSem sig := (cc0_scratch4 : DmaSems sig S_).sem

/-- The devices next to `c` along the second and along the first mesh axis, as the kernel computes them. -/
abbrev yDev (c : Dev nD) : Dev nD := ⟨k0_dev1 c, k0_dev1_lt c⟩
abbrev xDev (c : Dev nD) : Dev nD := ⟨k0_dev2 c, k0_dev2_lt c⟩

/-- Every chunk of HBM is of whole words. -/
theorem chunk_words (M : Memref sig .tc .hbm S1x4096x2048 .f32) (c : Dev nD) (i : Fin 64) : (chunk M c i).view.WordExact :=
  (View.wordExact_bits rfl).reshape _ _

/-- Chunk `i` of `x` to the device next along the second axis. -/
def sendY (c : Dev nD) (i : Fin 64) : KProg F PUnit :=
  Prog.lift (.enqueueDma (chunk xM c i) (.remote (Dev.tc (yDev c)) (chunk oM c i) (.dma (ysS i))) (.dma (yrS i))
    (chunk_words _ _ _) (chunk_words _ _ _) ⟨⟨rfl, Or.inl rfl⟩, trivial⟩)
/-- Chunk `i` of the result on to the device next along the first axis. -/
def sendX (c : Dev nD) (i : Fin 64) : KProg F PUnit :=
  Prog.lift (.enqueueDma (chunk oM c i) (.remote (Dev.tc (xDev c)) (chunk oM c i) (.dma (xsS i))) (.dma (xrS i))
    (chunk_words _ _ _) (chunk_words _ _ _) ⟨⟨rfl, Or.inl rfl⟩, trivial⟩)
def waitYr (c : Dev nD) (i : Fin 64) : KProg F PUnit :=
  Prog.lift (.waitDma2 (yrS i) (chunk xM c i) (chunk oM c i) (chunk_words _ _ _) (chunk_words _ _ _))
def waitXr (c : Dev nD) (i : Fin 64) : KProg F PUnit :=
  Prog.lift (.waitDma2 (xrS i) (chunk oM c i) (chunk oM c i) (chunk_words _ _ _) (chunk_words _ _ _))
def waitYs (c : Dev nD) (i : Fin 64) : KProg F PUnit :=
  Prog.lift (.waitDma2 (ysS i) (chunk oM c i) (chunk xM c i) (chunk_words _ _ _) (chunk_words _ _ _))
def waitXs (c : Dev nD) (i : Fin 64) : KProg F PUnit :=
  Prog.lift (.waitDma2 (xsS i) (chunk oM c i) (chunk oM c i) (chunk_words _ _ _) (chunk_words _ _ _))

/-- `f s; f (s + 1); …`, `n` of them. -/
def loop (f : Fin 64 → KProg F PUnit) : ℕ → ℕ → KProg F PUnit
  | 0, _ => .ret ⟨⟩
  | n + 1, s => (f (Fin.ofNat 64 s)).bind fun _ => loop f n (s + 1)

def stage1 (c : Dev nD) : KProg F PUnit := loop (fun i => sendY c i) 64 0
def stage2 (c : Dev nD) : KProg F PUnit := loop (fun i => (waitYr c i).bind fun _ => sendX c i) 64 0
def stage3 (c : Dev nD) : KProg F PUnit := loop (fun i => waitXr c i) 64 0
def stage4 (c : Dev nD) : KProg F PUnit := loop (fun i => (waitYs c i).bind fun _ => waitXs c i) 64 0

/-- The whole exchange. -/
def exchange (c : Dev nD) : KProg F PUnit :=
  (stage1 c).bind fun _ => (stage2 c).bind fun _ => (stage3 c).bind fun _ => (stage4 c)

/-- The block kept: one copy inside the device. -/
def keep : KProg F PUnit := do
  Prog.lift (.enqueueDma xM (.here oM) (.dma cpS) (Memref.isWhole_whole main_arg0).wordExact (Memref.isWhole_whole main_v1).wordExact ⟨Or.inl rfl, trivial⟩)
  Prog.lift (.waitDma2 cpS xM oM (Memref.isWhole_whole main_arg0).wordExact (Memref.isWhole_whole main_v1).wordExact)

/-- The word the kernel reads of `pi`, and what it compares it with: the device's place along the second axis. -/
abbrev yWord (c : Dev nD) : BitVec 32 := Scalar.remsi (Scalar.divsi (Dev.word c) 1#32) 2#32

def compact : KProg F PUnit := do
  let c ← Prog.lift .deviceId
  let w : Elt F .i32 ← smemLoad (win0_0.stage 0) (Rect.unit (s := S2) (k0_off1 c) S1.size (k0_off1_inb c)) numel1_S1 rfl
  semSignalWord (yDev c) (SemArray.scalar (d := ![]) (sig.barrier 0 rfl)).sem 1#32
  semSignalWord (xDev c) (SemArray.scalar (d := ![]) (sig.barrier 0 rfl)).sem 1#32
  semWaitWord (SemArray.scalar (d := ![]) (sig.barrier 0 rfl)).sem 2#32
  if Scalar.cmpi .ne (Scalar.extui (Scalar.cmpi .ne w (yWord c)) : BitVec 32) 0#32 = 1#1 then exchange c else pure ⟨⟩
  if Scalar.cmpi .ne (Scalar.extui (Scalar.cmpi .eq w (yWord c)) : BitVec 32) 0#32 = 1#1 then keep else pure ⟨⟩

set_option maxRecDepth 65536 in
/-- The printed body is the loops. -/
theorem body_eq : cc0_body (F := F) xM (Memref.isWhole_whole _) (win0_0.stage 0) (hstage0_0 0) oM (Memref.isWhole_whole _)
    cc0_scratch0 cc0_scratch1 cc0_scratch2 cc0_scratch3 cc0_scratch4 = compact := by
  chain_rfl

end Cert.Exchange

end
-- ==== Proof.Rows.lean ====
/-
# The mesh and the rows of a chunk

Device `2 * x + y` sits at place `(x, y)` of the mesh. Half `x` of the rows of a block is cut in 64 chunks; here are the
neighbours of a device, the elements of a chunk, and what writing one chunk with another leaves.
-/
module

public import proofs.«01_k».proof.Proof.Compact
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh -/

theorem yDev_yDev (c : Dev nD) : yDev (yDev c) = c := by
  apply Fin.ext; show k0_dev1 (yDev c) = c.val
  rw [k0_dev1_eq]; show (2 * (k0_dev1 c / 2) + 1) - k0_dev1 c % 2 = c.val
  rw [k0_dev1_eq]; have := c.isLt; omega
theorem xDev_xDev (c : Dev nD) : xDev (xDev c) = c := by
  apply Fin.ext; show k0_dev2 (xDev c) = c.val
  rw [k0_dev2_eq]; show (k0_dev2 c % 2 + 2) - 2 * (k0_dev2 c / 2) = c.val
  rw [k0_dev2_eq]; have := c.isLt; have : nD = 4 := rfl; omega
theorem yDev_half (c : Dev nD) : (yDev c).val / 2 = c.val / 2 := by
  show k0_dev1 c / 2 = _; rw [k0_dev1_eq]; omega
theorem xDev_half (c : Dev nD) : (xDev c).val / 2 = 1 - c.val / 2 := by
  show k0_dev2 c / 2 = _; rw [k0_dev2_eq]; have := c.isLt; have : nD = 4 := rfl; omega
theorem half_lt (c : Dev nD) : c.val / 2 < 2 := by have := c.isLt; have : nD = 4 := rfl; omega

def yPeer : Dev nD ≃ Dev nD := ⟨yDev, yDev, yDev_yDev, yDev_yDev⟩
def xPeer : Dev nD ≃ Dev nD := ⟨xDev, xDev, xDev_xDev, xDev_xDev⟩

/-! ## The rows of a chunk -/

/-- A block of `x`, of the result. -/
abbrev Arr (F : FTy → Type) : Type := S1x4096x2048.Idx → Elt F .f32

/-- The elements of chunk `i` of device `c`'s half. -/
def rows (c : Dev nD) (i : Fin 64) : Finset S1x4096x2048.Idx := (chunkR c i).set
/-- The elements of device `c`'s half of the rows. -/
def half (c : Dev nD) : Finset S1x4096x2048.Idx := Finset.univ.filter fun j => (j 1).val / 2048 = c.val / 2

theorem mem_rows {c : Dev nD} {i : Fin 64} {j : S1x4096x2048.Idx} :
    j ∈ rows c i ↔ 2048 * (c.val / 2) + 32 * i.val ≤ (j 1).val ∧ (j 1).val < 2048 * (c.val / 2) + 32 * i.val + 32 := by
  unfold rows chunkR
  rw [Rect.mem_set_unit, k0_off2_eq]
  constructor
  · intro h; exact h 1
  · intro h a
    have h0 := (j 0).isLt
    have h2 := (j 2).isLt
    match a with
    | ⟨0, _⟩ => exact ⟨Nat.zero_le _, by simpa using h0⟩
    | ⟨1, _⟩ => exact h
    | ⟨2, _⟩ => exact ⟨Nat.zero_le _, by simpa using h2⟩

theorem mem_half {c : Dev nD} {j : S1x4096x2048.Idx} : j ∈ half c ↔ (j 1).val / 2048 = c.val / 2 := by
  unfold half; rw [Finset.mem_filter]; exact ⟨fun h => h.2, fun h => ⟨Finset.mem_univ _, h⟩⟩

theorem rows_half {c : Dev nD} {i : Fin 64} {j : S1x4096x2048.Idx} (h : j ∈ rows c i) : (j 1).val / 2048 = c.val / 2 := by
  rw [mem_rows] at h; have := i.isLt; omega

theorem rows_disjoint (c : Dev nD) (i i' : Fin 64) (h : i ≠ i') : Disjoint (rows c i) (rows c i') := by
  rw [Finset.disjoint_left]
  intro j h1 h2
  rw [mem_rows] at h1 h2
  exact h (Fin.ext (by omega))

theorem rows_cover [DecidableEq S1x4096x2048.Idx] (c : Dev nD) : Finset.univ.biUnion (rows c) = half c := by
  ext j
  rw [Finset.mem_biUnion, mem_half]
  constructor
  · rintro ⟨i, -, h⟩; exact rows_half h
  · intro h
    have hj : (j 1).val < 4096 := (j 1).isLt
    exact ⟨⟨((j 1).val - 2048 * (c.val / 2)) / 32, by omega⟩, Finset.mem_univ _, mem_rows.mpr (by dsimp only; omega)⟩

theorem rows_congr {c d : Dev nD} (h : c.val / 2 = d.val / 2) (i : Fin 64) : rows c i = rows d i := by
  ext j; rw [mem_rows, mem_rows, h]
theorem half_congr {c d : Dev nD} (h : c.val / 2 = d.val / 2) : half c = half d := by
  ext j; rw [mem_half, mem_half, h]

theorem half_compl (c : Dev nD) : half (xDev c) = Finset.univ \ half c := by
  ext j
  have hj : (j 1).val < 4096 := (j 1).isLt
  rw [Finset.mem_sdiff, mem_half, mem_half, xDev_half]
  have := half_lt c
  constructor
  · intro h; exact ⟨Finset.mem_univ _, by omega⟩
  · rintro ⟨-, h⟩; omega

theorem chunk_set_x (c : Dev nD) (i : Fin 64) : (chunk xM c i).view.set = rows c i := by
  show (((View.whole main_arg0).slice (chunkR c i)).reshape S32x2048 (Shape.Squeezes.numel_eq squeezes_S1x32x2048_S32x2048)).set = _
  rw [View.set_reshape, View.set_slice_whole]; rfl
theorem chunk_set_o (c : Dev nD) (i : Fin 64) : (chunk oM c i).view.set = rows c i := by
  show (((View.whole main_v1).slice (chunkR c i)).reshape S32x2048 (Shape.Squeezes.numel_eq squeezes_S1x32x2048_S32x2048)).set = _
  rw [View.set_reshape, View.set_slice_whole]; rfl

omit [FloatOps F] in
/-- A chunk of the result written with the same chunk of `x` holds it; -/
theorem landed_x (c : Dev nD) (i : Fin 64) (fd fs : Arr F) (j : S1x4096x2048.Idx) (hj : j ∈ rows c i) :
    (chunk oM c i).view.write (Elt F) fd ((chunk xM c i).view.read (Elt F) fs) Finset.univ j = fs j := by
  rw [← chunk_set_o] at hj
  obtain ⟨x, -, rfl⟩ := Finset.mem_map.mp hj
  rw [View.write_emb_of_mem _ _ (Finset.mem_univ x)]
  rfl
omit [FloatOps F] in
/-- and with a chunk of a result, likewise. -/
theorem landed_o (c : Dev nD) (i : Fin 64) (fd fs : Arr F) (j : S1x4096x2048.Idx) (hj : j ∈ rows c i) :
    (chunk oM c i).view.write (Elt F) fd ((chunk oM c i).view.read (Elt F) fs) Finset.univ j = fs j := by
  rw [← chunk_set_o] at hj
  obtain ⟨x, -, rfl⟩ := Finset.mem_map.mp hj
  rw [View.write_emb_of_mem _ _ (Finset.mem_univ x)]
  rfl

end Cert.Exchange

end
-- ==== Proof.Cells.lean ====
/-
# The semaphores of a device

The barrier, the semaphore of the copy inside the device, and four arrays of 64: each named by an index, the index read
back from the semaphore.
-/
module

public import proofs.«01_k».proof.Proof.Compact
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores -/

abbrev barS : Sem sig := (SemArray.scalar (d := ![]) (sig.barrier 0 rfl)).sem

/-- The kernel's own semaphores: that of the copy inside the device, and four arrays of 64. -/
abbrev OK : Type := Unit ⊕ (Fin 4 × Fin 64)
/-- These and the barrier. -/
abbrev CK : Type := Unit ⊕ OK

abbrev kBar : CK := .inl ()
abbrev kCp : CK := .inr (.inl ())
abbrev kArr (a : Fin 4) (i : Fin 64) : CK := .inr (.inr (a, i))

def arrs : Fin 4 → DmaSems sig S64 := ![cc0_scratch0, cc0_scratch1, cc0_scratch2, cc0_scratch3]

def osem : OK → SemLoc sig
  | .inl _ => .dma cpS
  | .inr (a, i) => .dma (semAt (arrs a) i)
def csem : CK → SemLoc sig
  | .inl _ => .reg barS
  | .inr k => osem k

/-- Which of them a semaphore is. -/
def ckOf : SemLoc sig → Option CK
  | .reg s => if s = barS then some kBar else none
  | .dma j => if j.val = 0 then none else
      if h : j.val < 257 then some (kArr ⟨(j.val - 1) / 64, by omega⟩ ⟨(j.val - 1) % 64, Nat.mod_lt _ (by omega)⟩) else some kCp

theorem semAt_val (a : Fin 4) (i : Fin 64) : (semAt (arrs a) i).val = 1 + 64 * a.val + i.val := by
  revert a i; decide +kernel

theorem ckOf_csem (k : CK) : ckOf (csem k) = some k := by
  match k with
  | .inl _ => show (if barS = barS then some kBar else none) = _; rw [if_pos rfl]
  | .inr (.inl _) => rfl
  | .inr (.inr (a, i)) =>
    show ckOf (.dma (semAt (arrs a) i)) = _
    unfold ckOf
    dsimp only
    have ha := a.isLt
    have hi := i.isLt
    have hv := semAt_val a i
    rw [if_neg (by omega), dif_pos (by omega)]
    have h1 : ((semAt (arrs a) i).val - 1) / 64 = a.val := by omega
    have h2 : ((semAt (arrs a) i).val - 1) % 64 = i.val := by omega
    simp only [h1, h2]

theorem csem_injective : Function.Injective csem := fun k k' h => by
  have := congrArg ckOf h; rw [ckOf_csem, ckOf_csem] at this; exact Option.some.inj this

/-- A device's semaphore, as a cell. -/
abbrev cell (c : Dev nD) (k : CK) : GSem nD τ sig := ((c : Thread nD τ), csem k)

theorem cell_inj {c c' : Dev nD} {k k' : CK} (h : cell c k = cell c' k') : c = c' ∧ k = k' :=
  ⟨congrArg (fun g : GSem nD τ sig => g.1.1) h, csem_injective (congrArg Prod.snd h)⟩

/-- What a chunk counts, and what the whole block counts. -/
@[irreducible] def N : ℕ := (chunk oM (0 : Dev nD) (0 : Fin 64)).view.dmaCredit
@[irreducible] def NC : ℕ := (oM).view.dmaCredit
theorem N_eq : (chunk oM (0 : Dev nD) (0 : Fin 64)).view.dmaCredit = N := by unfold N; rfl
theorem NC_eq : (oM).view.dmaCredit = NC := by unfold NC; rfl
theorem N_pos : 0 < N := by rw [← N_eq]; exact View.dmaCredit_pos _ (by decide)
theorem NC_pos : 0 < NC := by rw [← NC_eq]; exact View.dmaCredit_pos _ (by decide)

end Cert.Exchange

end
-- ==== Proof.Protocol.lean ====
/-
# The protocol between the four devices

Device `2 * x + y` sits at place `(x, y)` of the mesh. When the block is exchanged, a device sends its half `x` of the
rows to its neighbour along `y`, and what it receives from there on to its neighbour along `x`; 64 chunks each way. When
the block is kept, it is copied inside the device. Both ways every device first signals both neighbours and waits for
both.

Here: the mesh, the rows of a chunk, the semaphores, the contents the result ends at, and the schedule of the
semaphores' one round — what each signal and each landing hands over, and how much it counts.
-/
module

public import proofs.«01_k».proof.Proof.Rows
public import proofs.«01_k».proof.Proof.Cells
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The contents -/

variable (m : (ℓ : Loc nD τ sig) → Buf (Elt F) ℓ)

/-- Device `c`'s block of `x` at launch. -/
def xAt (c : Dev nD) : Arr F := m ((c : Thread nD τ).loc main_arg0)

/-- Device `c`'s block of the result. -/
def fin (sw : Bool) (c : Dev nD) : Arr F := fun j =>
  if sw then (if (j 1).val / 2048 = c.val / 2 then xAt m (yDev c) j else xAt m (yDev (xDev c)) j) else xAt m c j

/-- Elements `S` of device `c`'s block of `x`; -/
def xPts (c : Dev nD) (S : Finset S1x4096x2048.Idx) (f : Arr F) : sProp 𝕄 := ((c : Thread nD τ).loc main_arg0) ↦[S]{fullShare} f
/-- of its result. -/
def oPts (c : Dev nD) (S : Finset S1x4096x2048.Idx) (f : Arr F) : sProp 𝕄 := ((c : Thread nD τ).loc main_v1) ↦[S]{fullShare} f

omit [FloatOps F] in
instance xPts_storable (c : Dev nD) (S) (f) : BI.Storable (upEmb : UEmb _ 𝕄) (xPts (F := F) c S f) := by unfold xPts; infer_instance
omit [FloatOps F] in
instance oPts_storable (c : Dev nD) (S) (f) : BI.Storable (upEmb : UEmb _ 𝕄) (oPts (F := F) c S f) := by unfold oPts; infer_instance

/-! ## The schedule

`sw` says whether the block is exchanged (`true`) or kept. One round, round 0. -/

variable (sw : Bool)

def dutiesK : CK → Finset Bool
  | .inl _ => Finset.univ
  | .inr (.inl _) => if sw then ∅ else {false}
  | .inr (.inr _) => if sw then {false} else ∅

def amountK : CK → ℕ
  | .inl _ => 1
  | .inr (.inl _) => NC
  | .inr (.inr _) => N

theorem amountK_pos (k : CK) : 0 < amountK k := by
  match k with
  | .inl _ => exact Nat.one_pos
  | .inr (.inl _) => unfold amountK; exact NC_pos
  | .inr (.inr _) => unfold amountK; exact N_pos

/-- What a signal or a landing hands the owner of the cell. A neighbour's signal: the rows of its result it will be sent.
    A send done: the rows sent. A chunk landed: the rows of the result at what they end at. -/
def payK (c : Dev nD) : CK → Bool → sProp 𝕄
  | .inl _, d => if sw then iprop(∃ f, oPts (if d then xDev c else yDev c) (half c) f) else iprop(emp)
  | .inr (.inl _), _ => iprop(xPts c Finset.univ (xAt m c) ∗ oPts c Finset.univ (fin m sw c))
  | .inr (.inr (a, i)), _ =>
      match a with
      | 0 => xPts c (rows c i) (xAt m c)
      | 1 => oPts c (rows c i) (fin m sw c)
      | 2 => oPts c (rows c i) (fin m sw c)
      | 3 => oPts c (rows (xDev c) i) (fin m sw c)

def Rd : Rounds.Schedule (GSem nD τ sig) Bool 𝕄 where
  duties g r := if r = 0 ∧ g.1.2 = .tc then (ckOf g.2).elim ∅ (dutiesK sw) else ∅
  unitless _ := False
  amount g _ _ := (ckOf g.2).elim 1 amountK
  payload g _ d := (ckOf g.2).elim iprop(emp) (fun k => payK m sw g.1.1 k d)
  amount_pos g _ _ _ := by
    cases h : ckOf g.2 with
    | none => exact Nat.one_pos
    | some k => exact amountK_pos k

omit [FloatOps F] in
theorem payK_storable (c : Dev nD) (k : CK) (d : Bool) : BI.Storable (upEmb : UEmb _ 𝕄) (payK m sw c k d) := by
  unfold payK
  (repeat' split) <;> infer_instance

instance Rd_payload_storable (g : GSem nD τ sig) (r : ℕ) (d : Bool) :
    BI.Storable (upEmb : UEmb _ 𝕄) ((Rd (F := F) m sw).payload g r d) := by
  show BI.Storable upEmb ((ckOf g.2).elim iprop(emp) (fun k => payK m sw g.1.1 k d))
  cases ckOf g.2 with
  | none => exact (inferInstance : BI.Storable upEmb (iprop(emp) : sProp 𝕄))
  | some k => exact payK_storable m sw g.1.1 k d

section Sched
variable (c : Dev nD) (k : CK)

omit [FloatOps F] in
theorem duties_cell : (Rd (F := F) m sw).duties (cell c k) 0 = dutiesK sw k := by
  dsimp only [Rd]
  rw [if_pos ⟨rfl, rfl⟩]
  rw [ckOf_csem]; rfl
omit [FloatOps F] in
theorem duties_later (g : GSem nD τ sig) : ∀ r, 1 ≤ r → (Rd (F := F) m sw).duties g r = ∅ :=
  fun r hr => if_neg fun h => by omega
omit [FloatOps F] in
theorem amount_cell (d : Bool) : (Rd (F := F) m sw).amount (cell c k) 0 d = amountK k := by
  show (ckOf (csem k)).elim 1 amountK = _; rw [ckOf_csem]; rfl
omit [FloatOps F] in
theorem payload_cell (d : Bool) : (Rd (F := F) m sw).payload (cell c k) 0 d = payK m sw c k d := by
  show (ckOf (csem k)).elim iprop(emp) (fun k => payK m sw c k d) = _; rw [ckOf_csem]; rfl

omit [FloatOps F] in
theorem expect_bar : (Rd (F := F) m sw).expect (cell c kBar) 0 = 2 := by
  unfold Schedule.expect Schedule.amountOf
  rw [duties_cell, Finset.sum_congr rfl fun d _ => amount_cell m sw c kBar d]; rfl
omit [FloatOps F] in
theorem expect_one (h : dutiesK sw k = {false}) : (Rd (F := F) m sw).expect (cell c k) 0 = amountK k := by
  unfold Schedule.expect Schedule.amountOf
  rw [duties_cell, h, Finset.sum_singleton, amount_cell]

omit [FloatOps F] in
theorem rest_bar : bigSep ((Rd (F := F) m sw).duties (cell c kBar) 0 \ ∅) (fun d => (Rd (F := F) m sw).payload (cell c kBar) 0 d)
    = iprop(payK m sw c kBar false ∗ payK m sw c kBar true) := by
  rw [Finset.sdiff_empty, duties_cell, show dutiesK sw kBar = Finset.univ from rfl,
    bigSep_univ_eq_bigSepL [false, true] (by decide) (by decide), bigSepL_cons_cons, bigSepL_singleton, payload_cell, payload_cell]
  rfl
omit [FloatOps F] in
theorem rest_one (h : dutiesK sw k = {false}) :
    bigSep ((Rd (F := F) m sw).duties (cell c k) 0 \ ∅) (fun d => (Rd (F := F) m sw).payload (cell c k) 0 d) = payK m sw c k false := by
  rw [Finset.sdiff_empty, duties_cell, h, bigSep_singleton, payload_cell]

end Sched

end Cert.Exchange

end
-- ==== Proof.Owed.lean ====
/-
# What a device owes, and the order of the waits

A device owes its two neighbours' barriers a unit each and, when the block is exchanged, their receiving semaphores the
chunks it will send. It waits for its barrier owing chunks only, for the chunks along `y` owing chunks along `x` only, and
for everything else owing nothing: the levels 1, 2, 3 order these.
-/
module

public import proofs.«01_k».proof.Proof.Protocol
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunks from a number on -/

def from_ (s : ℕ) : Finset (Fin 64) := Finset.univ.filter fun i => s ≤ i.val

theorem mem_from {s : ℕ} {i : Fin 64} : i ∈ from_ s ↔ s ≤ i.val := by
  unfold from_; rw [Finset.mem_filter]; exact ⟨fun h => h.2, fun h => ⟨Finset.mem_univ _, h⟩⟩
theorem from_zero : from_ 0 = Finset.univ := by
  ext i; rw [mem_from]; exact ⟨fun _ => Finset.mem_univ _, fun _ => Nat.zero_le _⟩
theorem from_end : from_ 64 = ∅ := by
  ext i; rw [mem_from]; have := i.isLt; exact ⟨fun h => by omega, fun h => absurd h (Finset.notMem_empty _)⟩
theorem notMem_from (i : Fin 64) : i ∉ from_ (i.val + 1) := by rw [mem_from]; omega
theorem from_step (i : Fin 64) : from_ i.val = insert i (from_ (i.val + 1)) := by
  ext j
  rw [Finset.mem_insert, mem_from, mem_from]
  constructor
  · intro h
    rcases Nat.eq_or_lt_of_le h with h | h
    · exact Or.inl (Fin.ext h.symm)
    · exact Or.inr h
  · rintro (rfl | h)
    · exact Nat.le_refl _
    · omega

/-! ## What is owed -/

abbrev Tallies : Type := CellTallies nD τ sig Unit

/-- Chunks `s` and on to the neighbour along `y`; -/
def Oy (c : Dev nD) (s : ℕ) : Tallies := ∑ i ∈ from_ s, tallyAt (cell (yDev c) (kArr 1 i)) () N
/-- along `x`. -/
def Ox (c : Dev nD) (s : ℕ) : Tallies := ∑ i ∈ from_ s, tallyAt (cell (xDev c) (kArr 3 i)) () N

theorem Oy_step (c : Dev nD) (i : Fin 64) : Oy c i.val = Oy c (i.val + 1) + tallyAt (cell (yDev c) (kArr 1 i)) () N := by
  unfold Oy; rw [from_step i, Finset.sum_insert (notMem_from i), add_comm]
theorem Ox_step (c : Dev nD) (i : Fin 64) : Ox c i.val = Ox c (i.val + 1) + tallyAt (cell (xDev c) (kArr 3 i)) () N := by
  unfold Ox; rw [from_step i, Finset.sum_insert (notMem_from i), add_comm]
theorem Oy_end (c : Dev nD) : Oy c 64 = 0 := by unfold Oy; rw [from_end, Finset.sum_empty]
theorem Ox_end (c : Dev nD) : Ox c 64 = 0 := by unfold Ox; rw [from_end, Finset.sum_empty]

/-- After both signals; -/
def Osnd (sw : Bool) (c : Dev nD) : Tallies := if sw then Ox c 0 + Oy c 0 else 0
/-- after the first, to the neighbour along `y`; -/
def O₁ (sw : Bool) (c : Dev nD) : Tallies := Osnd sw c + tallyAt (cell (xDev c) kBar) () 1
/-- at launch. -/
def O₀ (sw : Bool) (c : Dev nD) : Tallies := O₁ sw c + tallyAt (cell (yDev c) kBar) () 1

/-! ## The levels -/

def L (g : GSem nD τ sig) : Finset Unit := if g.1.2 = .tc then {()} else ∅
def lvK : CK → ℕ
  | .inl _ => 1
  | .inr (.inl _) => 0
  | .inr (.inr (a, _)) => match a with | 0 => 0 | 1 => 2 | 2 => 0 | 3 => 3
def lv (g : GSem nD τ sig) (_ : Unit) : ℕ := (ckOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = lvK k := by
  show (ckOf (csem k)).elim 0 lvK = _; rw [ckOf_csem]; rfl

/-- Everything in `O` is owed at a level above `n`. -/
def Above (n : ℕ) (O : Tallies) : Prop := ∀ g u, 0 < O g u → g.1.2 = .tc ∧ n < lv g ()

theorem Above.zero (n : ℕ) : Above n 0 := fun g u h => absurd h (Nat.lt_irrefl 0)
theorem Above.tally {n : ℕ} {c : Dev nD} {k : CK} (h : n < lvK k) (a : ℕ) : Above n (tallyAt (cell c k) () a) := fun g u hg => by
  rw [tallyAt_apply] at hg
  by_cases e : g = cell c k ∧ u = ()
  · rw [e.1, lv_cell]; exact ⟨rfl, h⟩
  · rw [if_neg e] at hg; exact absurd hg (Nat.lt_irrefl 0)
theorem Above.add {n : ℕ} {O O' : Tallies} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.sum {n : ℕ} (S : Finset (Fin 64)) (f : Fin 64 → Tallies) (h : ∀ i, Above n (f i)) : Above n (∑ i ∈ S, f i) := by
  induction S using Finset.induction_on with
  | empty => rw [Finset.sum_empty]; exact Above.zero n
  | insert i S hi ih => rw [Finset.sum_insert hi]; exact (h i).add ih

theorem above_Oy {n : ℕ} (h : n < 2) (c : Dev nD) (s : ℕ) : Above n (Oy c s) := Above.sum _ _ fun i => Above.tally (k := kArr 1 i) h _
theorem above_Ox {n : ℕ} (h : n < 3) (c : Dev nD) (s : ℕ) : Above n (Ox c s) := Above.sum _ _ fun i => Above.tally (k := kArr 3 i) h _
theorem above_Osnd {n : ℕ} (h : n < 2) (sw : Bool) (c : Dev nD) : Above n (Osnd sw c) := by
  unfold Osnd; split
  · exact (above_Ox (by omega) c 0).add (above_Oy h c 0)
  · exact Above.zero n
theorem above_O₀ (sw : Bool) (c : Dev nD) : Above 0 (O₀ sw c) :=
  ((above_Osnd (by omega) sw c).add (Above.tally (k := kBar) (by decide) 1)).add (Above.tally (k := kBar) (by decide) 1)

omit [FloatOps F] in
/-- A device may wait for a semaphore of a level below everything it owes. -/
theorem mayWait (c : Dev nD) (sm : SemLoc sig) (n : ℕ) (hn : lv ((c : Thread nD τ), sm) () ≤ n) (O : Tallies) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.Exchange

end
-- ==== Proof.Steps.lean ====
/-
# One operation at a time

The program rules of the exchange's operations at a device `c` and a chunk `i`, from the schedule: each takes what the
operation needs and what is to hold after it, and gives the operation.
-/
module

public import proofs.«01_k».proof.Proof.Owed
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c`'s, everything after it being `Q`. -/
abbrev wpk {α : Type} (c : Dev nD) (p : KProg F α) (Q : α → sProp 𝕄) : sProp 𝕄 :=
  wp frame (wpE (defs₀ (F := F)) 𝒱₀ (c : Thread nD τ) none) Set.univ p Q

theorem wpk_bind {α β : Type} (c : Dev nD) (p : KProg F α) (k : α → KProg F β) (Q : β → sProp 𝕄) :
    wpk c (p.bind k) Q = wpk c p fun a => wpk c (k a) Q :=
  wp_bind frame (wpE (defs₀ (F := F)) 𝒱₀ (c : Thread nD τ) none) Set.univ p k Q
theorem wpk_seq {α β : Type} (c : Dev nD) (p : KProg F α) (k : α → KProg F β) (Q : β → sProp 𝕄) :
    wpk c (p >>= k) Q = wpk c p fun a => wpk c (k a) Q := wpk_bind c p k Q
theorem wpk_ret {α : Type} (c : Dev nD) (a : α) (Q : α → sProp 𝕄) : Q a ⊢ wpk c (.ret a : KProg F α) Q := by
  unfold wpk; rw [wp_ret]; iintro H; imodintro; iexact H

/-- `O` owed, whatever has been waited for. -/
def owesE (c : Dev nD) (O : Tallies) : sProp 𝕄 := iprop(∃ W, owes (c : Thread nD τ) O W)

variable (m : (ℓ : Loc nD τ sig) → Buf (Elt F) ℓ) (sw : Bool) (K : Dev nD × CK → ℕ)

/-! ## The records every device holds -/

/-- Every cell's invariant, every cell at its round 0. -/
def records : sProp 𝕄 :=
  iprop((bigSep Finset.univ fun ck : Dev nD × CK => cellInv ER (Rd m sw) (K ck) (cell ck.1 ck.2))
    ∗ bigSep Finset.univ fun ck : Dev nD × CK => reached ER (cell ck.1 ck.2) 0)

instance records_persistent : BI.Persistent (records m sw K) := by unfold records; infer_instance

omit [FloatOps F] in
theorem inv_at (c : Dev nD) (k : CK) : records m sw K ⊢ cellInv ER (Rd m sw) (K (c, k)) (cell c k) := by
  unfold records
  exact sep_elim_left.trans (bigSep_elim (Φ := fun ck : Dev nD × CK => cellInv ER (Rd m sw) (K ck) (cell ck.1 ck.2)) (Finset.mem_univ (c, k)))
omit [FloatOps F] in
theorem reached_at (c : Dev nD) (k : CK) : records m sw K ⊢ (reached ER (cell c k) 0 : sProp 𝕄) := by
  unfold records
  exact sep_elim_right.trans (bigSep_elim (Φ := fun ck : Dev nD × CK => reached ER (cell ck.1 ck.2) 0) (Finset.mem_univ (c, k)))

/-! ## The chunks' points-to, as the operations name them -/

omit [FloatOps F] in
theorem xPts_chunk (c d : Dev nD) (i : Fin 64) (f : Arr F) : (xPts d (rows c i) f : sProp 𝕄)
    = ((chunk xM c i).view.loc (d : Thread nD τ) ↦[(chunk xM c i).view.set]{fullShare} f) := by
  unfold xPts; exact congrArg (fun S => (((d : Thread nD τ).loc main_arg0) ↦[S]{fullShare} f : sProp 𝕄)) (chunk_set_x c i).symm
omit [FloatOps F] in
theorem oPts_chunk (c d : Dev nD) (i : Fin 64) (f : Arr F) : (oPts d (rows c i) f : sProp 𝕄)
    = ((chunk oM c i).view.loc (d : Thread nD τ) ↦[(chunk oM c i).view.set]{fullShare} f) := by
  unfold oPts; exact congrArg (fun S => (((d : Thread nD τ).loc main_v1) ↦[S]{fullShare} f : sProp 𝕄)) (chunk_set_o c i).symm

omit [FloatOps F] in
theorem oPts_congr (c : Dev nD) {S S' : Finset S1x4096x2048.Idx} {f g : Arr F} (hS : S = S') (h : ∀ j ∈ S, f j = g j) :
    (oPts c S f : sProp 𝕄) = oPts c S' g := by
  subst hS; unfold oPts; exact pointsTo_congr h

/-! ## The chunk's operations -/

/-- A chunk of `x` to the neighbour along `y`. -/
theorem wp_sendY (c : Dev nD) (i : Fin 64) (fd : Arr F) (O : Tallies) (Q : PUnit → sProp 𝕄) :
    iprop(records m true K ∗ xPts c (rows c i) (xAt m c) ∗ oPts (yDev c) (rows c i) fd
        ∗ owesE c (O + tallyAt (cell (yDev c) (kArr 1 i)) () N)
        ∗ dutyTok ER (cell c (kArr 0 i)) 0 false ∗ dutyTok ER (cell (yDev c) (kArr 1 i)) 0 false
        ∗ ((cred (tallyAt (cell c (kArr 0 i)) () N) ∗ owesE c O) -∗ Q ⟨⟩))
      ⊢ wpk c (sendY (F := F) c i) Q := by
  unfold sendY owesE
  iintro ⟨#HR, Hx, Ho, ⟨%W, HO⟩, Ht, Ht', Hk⟩
  ihave #HI := (inv_at m true K c (kArr 0 i)) $$ HR
  ihave #HI' := (inv_at m true K (yDev c) (kArr 1 i)) $$ HR
  ihave #Hr := (reached_at m true K c (kArr 0 i)) $$ HR
  ihave #Hr' := (reached_at m true K (yDev c) (kArr 1 i)) $$ HR
  ihave Hx := (Entails.of_eq (xPts_chunk c c i (xAt m c))) $$ Hx
  ihave Ho := (Entails.of_eq (oPts_chunk c (yDev c) i fd)) $$ Ho
  iapply (Rounds.wp_send_pointsTo 𝒱₀ ER (Rd m true) (c : Thread nD τ) none (κ₁ := K (c, kArr 0 i)) (κ₂ := K (yDev c, kArr 1 i))
    (r₁ := 0) (r₂ := 0) (d₁ := false) (d₂ := false) (fd := fd) (fs := xAt m c) (q := fullShare)
    (c' := (yDev c : Thread nD τ)) (src := chunk xM c i) (dst := chunk oM c i) (sS := .dma (ysS i)) (sem := .dma (yrS i))
    (by show false ∈ (Rd m true).duties (cell c (kArr 0 i)) 0; rw [duties_cell]; exact Finset.mem_singleton_self _)
    (by show false ∈ (Rd m true).duties (cell (yDev c) (kArr 1 i)) 0; rw [duties_cell]; exact Finset.mem_singleton_self _)
    () () N N_eq (amount_cell m true c (kArr 0 i) false) (amount_cell m true (yDev c) (kArr 1 i) false) O rfl (W := W)
    (by show _ ⊢ (Rd m true).payload (cell c (kArr 0 i)) 0 false; rw [payload_cell, ← xPts_chunk]; exact BI.Entails.refl _)
    (by
      show _ ⊢ (Rd m true).payload (cell (yDev c) (kArr 1 i)) 0 false
      rw [payload_cell, ← oPts_chunk]
      show _ ⊢ oPts (yDev c) (rows (yDev c) i) (fin m true (yDev c))
      refine Entails.of_eq (oPts_congr _ (rows_congr (yDev_half c).symm i) fun j hj => ?_)
      rw [landed_x c i _ _ j hj]
      unfold fin
      rw [if_pos rfl, if_pos ((rows_half hj).trans (yDev_half c).symm), yDev_yDev])) $$ [Hx Ho HO Ht Ht']
  · isplitr; · iexact HI
    isplitr; · iexact HI'
    isplitl [Hx]; · iexact Hx
    isplitl [Ho]; · iexact Ho
    isplitl [HO]; · iexact HO
    isplitl [Ht]; · iexact Ht
    isplitr; · iexact Hr
    isplitl [Ht']; · iexact Ht'
    iexact Hr'
  iintro ⟨Hc, HO⟩
  rw [wp_ret]; imodintro
  iapply Hk
  isplitl [Hc]; · iexact Hc
  iexists W; iexact HO

/-- A chunk of the result on to the neighbour along `x`. -/
theorem wp_sendX (c : Dev nD) (i : Fin 64) (fd : Arr F) (O : Tallies) (Q : PUnit → sProp 𝕄) :
    iprop(records m true K ∗ oPts c (rows c i) (fin m true c) ∗ oPts (xDev c) (rows c i) fd
        ∗ owesE c (O + tallyAt (cell (xDev c) (kArr 3 i)) () N)
        ∗ dutyTok ER (cell c (kArr 2 i)) 0 false ∗ dutyTok ER (cell (xDev c) (kArr 3 i)) 0 false
        ∗ ((cred (tallyAt (cell c (kArr 2 i)) () N) ∗ owesE c O) -∗ Q ⟨⟩))
      ⊢ wpk c (sendX (F := F) c i) Q := by
  unfold sendX owesE
  iintro ⟨#HR, Hx, Ho, ⟨%W, HO⟩, Ht, Ht', Hk⟩
  ihave #HI := (inv_at m true K c (kArr 2 i)) $$ HR
  ihave #HI' := (inv_at m true K (xDev c) (kArr 3 i)) $$ HR
  ihave #Hr := (reached_at m true K c (kArr 2 i)) $$ HR
  ihave #Hr' := (reached_at m true K (xDev c) (kArr 3 i)) $$ HR
  ihave Hx := (Entails.of_eq (oPts_chunk c c i (fin m true c))) $$ Hx
  ihave Ho := (Entails.of_eq (oPts_chunk c (xDev c) i fd)) $$ Ho
  iapply (Rounds.wp_send_pointsTo 𝒱₀ ER (Rd m true) (c : Thread nD τ) none (κ₁ := K (c, kArr 2 i)) (κ₂ := K (xDev c, kArr 3 i))
    (r₁ := 0) (r₂ := 0) (d₁ := false) (d₂ := false) (fd := fd) (fs := fin m true c) (q := fullShare)
    (c' := (xDev c : Thread nD τ)) (src := chunk oM c i) (dst := chunk oM c i) (sS := .dma (xsS i)) (sem := .dma (xrS i))
    (by show false ∈ (Rd m true).duties (cell c (kArr 2 i)) 0; rw [duties_cell]; exact Finset.mem_singleton_self _)
    (by show false ∈ (Rd m true).duties (cell (xDev c) (kArr 3 i)) 0; rw [duties_cell]; exact Finset.mem_singleton_self _)
    () () N N_eq (amount_cell m true c (kArr 2 i) false) (amount_cell m true (xDev c) (kArr 3 i) false) O rfl (W := W)
    (by show _ ⊢ (Rd m true).payload (cell c (kArr 2 i)) 0 false; rw [payload_cell, ← oPts_chunk]; exact BI.Entails.refl _)
    (by
      show _ ⊢ (Rd m true).payload (cell (xDev c) (kArr 3 i)) 0 false
      rw [payload_cell, ← oPts_chunk]
      show _ ⊢ oPts (xDev c) (rows (xDev (xDev c)) i) (fin m true (xDev c))
      refine Entails.of_eq (oPts_congr _ (by rw [xDev_xDev]) fun j hj => ?_)
      rw [landed_o c i _ _ j hj]
      have hh := rows_half hj
      have hl := half_lt c
      unfold fin
      rw [if_pos rfl, if_pos rfl, if_pos hh, if_neg (by rw [xDev_half]; omega), xDev_xDev])) $$ [Hx Ho HO Ht Ht']
  · isplitr; · iexact HI
    isplitr; · iexact HI'
    isplitl [Hx]; · iexact Hx
    isplitl [Ho]; · iexact Ho
    isplitl [HO]; · iexact HO
    isplitl [Ht]; · iexact Ht
    isplitr; · iexact Hr
    isplitl [Ht']; · iexact Ht'
    iexact Hr'
  iintro ⟨Hc, HO⟩
  rw [wp_ret]; imodintro
  iapply Hk
  isplitl [Hc]; · iexact Hc
  iexists W; iexact HO

/-- A wait for the one landing of a semaphore, owing only what is above it. -/
theorem wp_wait (c : Dev nD) (k : CK) (hk : dutiesK sw k = {false}) (w : TpuEff nD τ sig (Elt F) Λ₀ .tc PUnit)
    (hw : ∀ Kt : PUnit → sProp 𝕄, wpE (defs₀ (F := F)) 𝒱₀ (c : Thread nD τ) none Set.univ w Kt
      = waitSpec (c : Thread nD τ) Set.univ (csem k) (amountK k) Kt)
    (O : Tallies) (hO : Above (lvK k) O) (Q : PUnit → sProp 𝕄) :
    iprop(records m sw K ∗ levAts L lv ∗ cred (tallyAt (cell c k) () (amountK k)) ∗ owesE c O ∗ atPos ER (cell c k) 0 ∅ 0
        ∗ ((owesE c O ∗ atPos ER (cell c k) 1 ∅ 0 ∗ payK m sw c k false) -∗ Q ⟨⟩))
      ⊢ wpk c (Prog.lift w) Q := by
  unfold owesE
  iintro ⟨#HR, #Hlev, Hc, ⟨%W, HO⟩, Hat, Hk⟩
  ihave #HI := (inv_at m sw K c k) $$ HR
  iapply (Rounds.wp_wait_rest_token 𝒱₀ ER (Rd m sw) (c : Thread nD τ) none (κ := K (c, k)) (sm := csem k) hw (Set.mem_univ _) ()
      (O := O) (W := W) (R := 0) (m := 0) (T := ∅)
      (by rw [Nat.zero_add]; exact (expect_one m sw c k hk).symm)) $$ [Hc HO Hat]
  · isplitr; · iexact HI
    isplitl [Hc]; · iexact Hc
    isplitl [HO]; · iexact HO
    isplitr; · iapply (mayWait c (csem k) (lvK k) (Nat.le_of_eq (lv_cell c k)) O hO); iexact Hlev
    iexact Hat
  iintro ⟨HO, Hat, -, Hp⟩
  ihave Hp := (Entails.of_eq (rest_one m sw c k hk)) $$ Hp
  rw [wp_ret]; imodintro
  iapply Hk
  isplitl [HO]; · iexists _; iexact HO
  isplitl [Hat]; · iexact Hat
  iexact Hp

theorem wp_waitYs (c : Dev nD) (i : Fin 64) (O : Tallies) (hO : Above 0 O) (Q : PUnit → sProp 𝕄) :
    iprop(records m true K ∗ levAts L lv ∗ cred (tallyAt (cell c (kArr 0 i)) () N) ∗ owesE c O ∗ atPos ER (cell c (kArr 0 i)) 0 ∅ 0
        ∗ ((owesE c O ∗ atPos ER (cell c (kArr 0 i)) 1 ∅ 0 ∗ xPts c (rows c i) (xAt m c)) -∗ Q ⟨⟩))
      ⊢ wpk c (waitYs (F := F) c i) Q :=
  wp_wait m true K c (kArr 0 i) rfl _ (fun Kt => by rw [wpE_waitDma2_eq]; exact congrArg (fun n => waitSpec _ _ _ n Kt) N_eq) O hO Q
theorem wp_waitYr (c : Dev nD) (i : Fin 64) (O : Tallies) (hO : Above 2 O) (Q : PUnit → sProp 𝕄) :
    iprop(records m true K ∗ levAts L lv ∗ cred (tallyAt (cell c (kArr 1 i)) () N) ∗ owesE c O ∗ atPos ER (cell c (kArr 1 i)) 0 ∅ 0
        ∗ ((owesE c O ∗ atPos ER (cell c (kArr 1 i)) 1 ∅ 0 ∗ oPts c (rows c i) (fin m true c)) -∗ Q ⟨⟩))
      ⊢ wpk c (waitYr (F := F) c i) Q :=
  wp_wait m true K c (kArr 1 i) rfl _ (fun Kt => by rw [wpE_waitDma2_eq]; exact congrArg (fun n => waitSpec _ _ _ n Kt) N_eq) O hO Q
theorem wp_waitXs (c : Dev nD) (i : Fin 64) (O : Tallies) (hO : Above 0 O) (Q : PUnit → sProp 𝕄) :
    iprop(records m true K ∗ levAts L lv ∗ cred (tallyAt (cell c (kArr 2 i)) () N) ∗ owesE c O ∗ atPos ER (cell c (kArr 2 i)) 0 ∅ 0
        ∗ ((owesE c O ∗ atPos ER (cell c (kArr 2 i)) 1 ∅ 0 ∗ oPts c (rows c i) (fin m true c)) -∗ Q ⟨⟩))
      ⊢ wpk c (waitXs (F := F) c i) Q :=
  wp_wait m true K c (kArr 2 i) rfl _ (fun Kt => by rw [wpE_waitDma2_eq]; exact congrArg (fun n => waitSpec _ _ _ n Kt) N_eq) O hO Q
theorem wp_waitXr (c : Dev nD) (i : Fin 64) (O : Tallies) (hO : Above 3 O) (Q : PUnit → sProp 𝕄) :
    iprop(records m true K ∗ levAts L lv ∗ cred (tallyAt (cell c (kArr 3 i)) () N) ∗ owesE c O ∗ atPos ER (cell c (kArr 3 i)) 0 ∅ 0
        ∗ ((owesE c O ∗ atPos ER (cell c (kArr 3 i)) 1 ∅ 0 ∗ oPts c (rows (xDev c) i) (fin m true c)) -∗ Q ⟨⟩))
      ⊢ wpk c (waitXr (F := F) c i) Q :=
  wp_wait m true K c (kArr 3 i) rfl _ (fun Kt => by rw [wpE_waitDma2_eq]; exact congrArg (fun n => waitSpec _ _ _ n Kt) N_eq) O hO Q

/-! ## The copy inside a device -/

/-- The block copied whole. -/
theorem wp_keep (c : Dev nD) (fd : Arr F) (Q : PUnit → sProp 𝕄) :
    iprop(records m false K ∗ levAts L lv ∗ xPts c Finset.univ (xAt m c) ∗ oPts c Finset.univ fd ∗ owesE c 0
        ∗ dutyTok ER (cell c kCp) 0 false ∗ atPos ER (cell c kCp) 0 ∅ 0
        ∗ ((owesE c 0 ∗ atPos ER (cell c kCp) 1 ∅ 0 ∗ xPts c Finset.univ (xAt m c) ∗ oPts c Finset.univ (fin m false c)) -∗ Q ⟨⟩))
      ⊢ wpk c (keep (F := F)) Q := by
  unfold keep
  iintro ⟨#HR, #Hlev, Hx, Ho, HO, Ht, Hat, Hk⟩
  ihave #HI := (inv_at m false K c kCp) $$ HR
  ihave #Hr := (reached_at m false K c kCp) $$ HR
  rw [wpk_seq]
  iapply (Rounds.wp_copy_pointsTo 𝒱₀ ER (Rd m false) (c : Thread nD τ) none (κ := K (c, kCp)) (r := 0) (d := false)
    (fd := fd) (fs := xAt m c) (q := fullShare) (src := xM) (dst := oM) (sem := .dma cpS)
    (by show false ∈ (Rd m false).duties (cell c kCp) 0; rw [duties_cell]; exact Finset.mem_singleton_self _)
    () NC NC_eq (amount_cell m false c kCp false)
    (by
      show _ ⊢ (Rd m false).payload (cell c kCp) 0 false
      rw [payload_cell]
      show iprop(oPts c (View.whole main_v1).set ((View.whole main_v1).write (Elt F) fd ((View.whole main_arg0).read (Elt F) (xAt m c)) Finset.univ)
        ∗ xPts c (View.whole main_arg0).set (xAt m c)) ⊢ iprop(xPts c Finset.univ (xAt m c) ∗ oPts c Finset.univ (fin m false c))
      rw [View.set_whole, View.set_whole, View.read_whole, View.write_whole_univ]
      iintro ⟨H1, H2⟩
      isplitl [H2]; · iexact H2
      iexact H1)) $$ [Hx Ho Ht]
  · isplitr; · iexact HI
    isplitl [Hx]
    · unfold xPts; rw [View.set_whole]; iexact Hx
    isplitl [Ho]
    · unfold oPts; rw [View.set_whole]; iexact Ho
    isplitl [Ht]; · iexact Ht
    iexact Hr
  iintro Hc
  rw [wp_ret]; imodintro
  iapply (wp_wait m false K c kCp rfl _ (fun Kt => by rw [wpE_waitDma2_eq]; exact congrArg (fun n => waitSpec _ _ _ n Kt) NC_eq) 0 (Above.zero _) Q)
  isplitr; · iexact HR
  isplitr; · iexact Hlev
  isplitl [Hc]; · iexact Hc
  isplitl [HO]; · iexact HO
  isplitl [Hat]; · iexact Hat
  iexact Hk

end Cert.Exchange

end
-- ==== Proof.Loops.lean ====
/-
# The exchange's four loops

A loop over the chunks runs each chunk's operations from that chunk's share of what is held; the four loops in a row
are the exchange.
-/
module

public import proofs.«01_k».proof.Proof.Steps
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- A loop from chunk `s` on: every chunk's step takes `A i` to `B i` and what is owed from `O i` to `O (i + 1)`. -/
theorem wp_loop_from (c : Dev nD) (f : Fin 64 → KProg F PUnit) (P : sProp 𝕄) [BI.Persistent P] (O : ℕ → Tallies)
    (A B : Fin 64 → sProp 𝕄)
    (step : ∀ (i : Fin 64) (Q : PUnit → sProp 𝕄),
      iprop(P ∗ owesE c (O i.val) ∗ A i ∗ ((owesE c (O (i.val + 1)) ∗ B i) -∗ Q ⟨⟩)) ⊢ wpk c (f i) Q) :
    ∀ (n s : ℕ), s + n = 64 → ∀ Q : PUnit → sProp 𝕄,
      iprop(P ∗ owesE c (O s) ∗ bigSep (from_ s) A ∗ ((owesE c (O 64) ∗ bigSep (from_ s) B) -∗ Q ⟨⟩)) ⊢ wpk c (loop f n s) Q
  | 0, s, hs, Q => by
    obtain rfl : s = 64 := by omega
    refine BI.Entails.trans ?_ (wpk_ret c _ Q)
    rw [from_end, bigSep_empty, bigSep_empty]
    show iprop(P ∗ owesE c (O 64) ∗ emp ∗ ((owesE c (O 64) ∗ emp) -∗ Q ⟨⟩)) ⊢ Q ⟨⟩
    iintro ⟨-, HO, -, Hk⟩
    iapply Hk
    isplitl [HO]; · iexact HO
    iempintro
  | n + 1, s, hs, Q => by
    have hi : (Fin.ofNat 64 s).val = s := Nat.mod_eq_of_lt (by omega)
    have hf : from_ s = insert (Fin.ofNat 64 s) (from_ (s + 1)) := by have := from_step (Fin.ofNat 64 s); rwa [hi] at this
    have hn : Fin.ofNat 64 s ∉ from_ (s + 1) := by have := notMem_from (Fin.ofNat 64 s); rwa [hi] at this
    have hstep := step (Fin.ofNat 64 s) fun _ => wpk c (loop f n (s + 1)) Q
    rw [hi] at hstep
    show _ ⊢ wpk c ((f (Fin.ofNat 64 s)).bind fun _ => loop f n (s + 1)) Q
    rw [wpk_bind, hf, bigSep_insert hn, bigSep_insert hn]
    show iprop(P ∗ owesE c (O s) ∗ (A (Fin.ofNat 64 s) ∗ bigSep (from_ (s + 1)) A)
        ∗ ((owesE c (O 64) ∗ (B (Fin.ofNat 64 s) ∗ bigSep (from_ (s + 1)) B)) -∗ Q ⟨⟩)) ⊢ _
    iintro ⟨#HP, HO, ⟨HA, HAs⟩, Hk⟩
    iapply hstep
    isplitr; · iexact HP
    isplitl [HO]; · iexact HO
    isplitl [HA]; · iexact HA
    iintro ⟨HO, HB⟩
    iapply (wp_loop_from c f P O A B step n (s + 1) (by omega) Q)
    isplitr; · iexact HP
    isplitl [HO]; · iexact HO
    isplitl [HAs]; · iexact HAs
    iintro ⟨HO, HBs⟩
    iapply Hk
    isplitl [HO]; · iexact HO
    isplitl [HB]; · iexact HB
    iexact HBs

/-- The whole loop. -/
theorem wp_loop (c : Dev nD) (f : Fin 64 → KProg F PUnit) (P : sProp 𝕄) [BI.Persistent P] (O : ℕ → Tallies)
    (A B : Fin 64 → sProp 𝕄)
    (step : ∀ (i : Fin 64) (Q : PUnit → sProp 𝕄),
      iprop(P ∗ owesE c (O i.val) ∗ A i ∗ ((owesE c (O (i.val + 1)) ∗ B i) -∗ Q ⟨⟩)) ⊢ wpk c (f i) Q)
    (Q : PUnit → sProp 𝕄) :
    iprop(P ∗ owesE c (O 0) ∗ bigSep Finset.univ A ∗ ((owesE c (O 64) ∗ bigSep Finset.univ B) -∗ Q ⟨⟩)) ⊢ wpk c (loop f 64 0) Q := by
  have h := wp_loop_from c f P O A B step 64 0 rfl Q
  rwa [from_zero] at h

/-! ## The stages -/

/-- One thing per chunk. -/
abbrev all (A : Fin 64 → sProp 𝕄) : sProp 𝕄 := bigSep Finset.univ A

/-- The chunk's semaphore `a` on device `c` before, after its landing was waited for; its duty's token; its credit. -/
abbrev at0 (c : Dev nD) (a : Fin 4) (i : Fin 64) : sProp 𝕄 := atPos ER (cell c (kArr a i)) 0 ∅ 0
abbrev at1 (c : Dev nD) (a : Fin 4) (i : Fin 64) : sProp 𝕄 := atPos ER (cell c (kArr a i)) 1 ∅ 0
abbrev tok (c : Dev nD) (a : Fin 4) (i : Fin 64) : sProp 𝕄 := dutyTok ER (cell c (kArr a i)) 0 false
abbrev crd (c : Dev nD) (a : Fin 4) (i : Fin 64) : sProp 𝕄 := cred (tallyAt (cell c (kArr a i)) () N)

theorem wp_stage1 (c : Dev nD) (f : Arr F) (Q : PUnit → sProp 𝕄) :
    iprop(records m true K ∗ owesE c (Ox c 0 + Oy c 0)
        ∗ (all (fun i => xPts c (rows c i) (xAt m c)) ∗ all (fun i => oPts (yDev c) (rows c i) f) ∗ all (tok c 0) ∗ all (tok (yDev c) 1))
        ∗ ((owesE c (Ox c 0) ∗ all (crd c 0)) -∗ Q ⟨⟩))
      ⊢ wpk c (stage1 (F := F) c) Q := by
  have h := wp_loop c (fun i => sendY (F := F) c i) (records m true K) (fun s => Ox c 0 + Oy c s)
    (fun i => iprop(xPts c (rows c i) (xAt m c) ∗ oPts (yDev c) (rows c i) f ∗ tok c 0 i ∗ tok (yDev c) 1 i)) (crd c 0)
    (fun i Q => by
      rw [Oy_step c i, ← add_assoc]
      iintro ⟨#HR, HO, ⟨Hx, Ho, Ht, Ht'⟩, Hk⟩
      iapply (wp_sendY m K c i f _ Q)
      isplitr; · iexact HR
      isplitl [Hx]; · iexact Hx
      isplitl [Ho]; · iexact Ho
      isplitl [HO]; · iexact HO
      isplitl [Ht]; · iexact Ht
      isplitl [Ht']; · iexact Ht'
      iintro ⟨Hc, HO⟩
      iapply Hk
      isplitl [HO]; · iexact HO
      iexact Hc) Q
  rw [bigSep_sep', bigSep_sep', bigSep_sep'] at h
  rw [Oy_end, add_zero] at h
  exact h

theorem wp_stage2 (c : Dev nD) (f : Arr F) (Q : PUnit → sProp 𝕄) :
    iprop((records m true K ∗ levAts L lv) ∗ owesE c (Ox c 0)
        ∗ (all (crd c 1) ∗ all (at0 c 1) ∗ all (fun i => oPts (xDev c) (rows c i) f) ∗ all (tok c 2) ∗ all (tok (xDev c) 3))
        ∗ ((owesE c 0 ∗ all (crd c 2) ∗ all (at1 c 1)) -∗ Q ⟨⟩))
      ⊢ wpk c (stage2 (F := F) c) Q := by
  have h := wp_loop c (fun i => (waitYr (F := F) c i).bind fun _ => sendX (F := F) c i) (iprop(records m true K ∗ levAts L lv)) (fun s => Ox c s)
    (fun i => iprop(crd c 1 i ∗ at0 c 1 i ∗ oPts (xDev c) (rows c i) f ∗ tok c 2 i ∗ tok (xDev c) 3 i)) (fun i => iprop(crd c 2 i ∗ at1 c 1 i))
    (fun i Q => by
      rw [wpk_bind]
      iintro ⟨⟨#HR, #Hlev⟩, HO, ⟨Hc, Hat, Ho, Ht, Ht'⟩, Hk⟩
      iapply (wp_waitYr m K c i _ (above_Ox (by omega) c i.val))
      isplitr; · iexact HR
      isplitr; · iexact Hlev
      isplitl [Hc]; · iexact Hc
      isplitl [HO]; · iexact HO
      isplitl [Hat]; · iexact Hat
      iintro ⟨HO, Hat, Hx⟩
      iapply (wp_sendX m K c i f (Ox c (i.val + 1)) Q)
      isplitr; · iexact HR
      isplitl [Hx]; · iexact Hx
      isplitl [Ho]; · iexact Ho
      isplitl [HO]; · rw [← Ox_step]; iexact HO
      isplitl [Ht]; · iexact Ht
      isplitl [Ht']; · iexact Ht'
      iintro ⟨Hc, HO⟩
      iapply Hk
      isplitl [HO]; · iexact HO
      isplitl [Hc]; · iexact Hc
      iexact Hat) Q
  rw [bigSep_sep', bigSep_sep', bigSep_sep', bigSep_sep', bigSep_sep'] at h
  rw [Ox_end] at h
  exact h

theorem wp_stage3 (c : Dev nD) (Q : PUnit → sProp 𝕄) :
    iprop((records m true K ∗ levAts L lv) ∗ owesE c 0 ∗ (all (crd c 3) ∗ all (at0 c 3))
        ∗ ((owesE c 0 ∗ all (at1 c 3) ∗ all (fun i => oPts c (rows (xDev c) i) (fin m true c))) -∗ Q ⟨⟩))
      ⊢ wpk c (stage3 (F := F) c) Q := by
  have h := wp_loop c (fun i => waitXr (F := F) c i) (iprop(records m true K ∗ levAts L lv)) (fun _ => 0)
    (fun i => iprop(crd c 3 i ∗ at0 c 3 i)) (fun i => iprop(at1 c 3 i ∗ oPts c (rows (xDev c) i) (fin m true c)))
    (fun i Q => by
      iintro ⟨⟨#HR, #Hlev⟩, HO, ⟨Hc, Hat⟩, Hk⟩
      iapply (wp_waitXr m K c i 0 (Above.zero _) Q)
      isplitr; · iexact HR
      isplitr; · iexact Hlev
      isplitl [Hc]; · iexact Hc
      isplitl [HO]; · iexact HO
      isplitl [Hat]; · iexact Hat
      iexact Hk) Q
  rw [bigSep_sep', bigSep_sep'] at h
  exact h

theorem wp_stage4 (c : Dev nD) (Q : PUnit → sProp 𝕄) :
    iprop((records m true K ∗ levAts L lv) ∗ owesE c 0 ∗ (all (crd c 0) ∗ all (at0 c 0) ∗ all (crd c 2) ∗ all (at0 c 2))
        ∗ ((owesE c 0 ∗ all (at1 c 0) ∗ all (fun i => xPts c (rows c i) (xAt m c)) ∗ all (at1 c 2)
            ∗ all (fun i => oPts c (rows c i) (fin m true c))) -∗ Q ⟨⟩))
      ⊢ wpk c (stage4 (F := F) c) Q := by
  have h := wp_loop c (fun i => (waitYs (F := F) c i).bind fun _ => waitXs (F := F) c i) (iprop(records m true K ∗ levAts L lv)) (fun _ => 0)
    (fun i => iprop(crd c 0 i ∗ at0 c 0 i ∗ crd c 2 i ∗ at0 c 2 i))
    (fun i => iprop(at1 c 0 i ∗ xPts c (rows c i) (xAt m c) ∗ at1 c 2 i ∗ oPts c (rows c i) (fin m true c)))
    (fun i Q => by
      rw [wpk_bind]
      iintro ⟨⟨#HR, #Hlev⟩, HO, ⟨Hc, Hat, Hc', Hat'⟩, Hk⟩
      iapply (wp_waitYs m K c i 0 (Above.zero _))
      isplitr; · iexact HR
      isplitr; · iexact Hlev
      isplitl [Hc]; · iexact Hc
      isplitl [HO]; · iexact HO
      isplitl [Hat]; · iexact Hat
      iintro ⟨HO, Hat, Hx⟩
      iapply (wp_waitXs m K c i 0 (Above.zero _) Q)
      isplitr; · iexact HR
      isplitr; · iexact Hlev
      isplitl [Hc']; · iexact Hc'
      isplitl [HO]; · iexact HO
      isplitl [Hat']; · iexact Hat'
      iintro ⟨HO, Hat', Ho⟩
      iapply Hk
      isplitl [HO]; · iexact HO
      isplitl [Hat]; · iexact Hat
      isplitl [Hx]; · iexact Hx
      isplitl [Hat']; · iexact Hat'
      iexact Ho) Q
  rw [bigSep_sep', bigSep_sep', bigSep_sep', bigSep_sep', bigSep_sep', bigSep_sep'] at h
  exact h

/-! ## The exchange -/

/-- What the exchange starts from: `c`'s half of `x`, both neighbours' rows it sends to, its tokens, the credit of its
    receiving semaphores, and all its semaphores' positions; -/
def exPre (c : Dev nD) (fy fx : Arr F) : sProp 𝕄 :=
  iprop(all (fun i => xPts c (rows c i) (xAt m c)) ∗ all (fun i => oPts (yDev c) (rows c i) fy) ∗ all (fun i => oPts (xDev c) (rows c i) fx)
    ∗ (all (tok c 0) ∗ all (tok (yDev c) 1) ∗ all (tok c 2) ∗ all (tok (xDev c) 3))
    ∗ (all (crd c 1) ∗ all (crd c 3))
    ∗ (all (at0 c 0) ∗ all (at0 c 1) ∗ all (at0 c 2) ∗ all (at0 c 3)))
/-- and ends at. -/
def exPost (c : Dev nD) : sProp 𝕄 :=
  iprop(all (fun i => xPts c (rows c i) (xAt m c)) ∗ all (fun i => oPts c (rows c i) (fin m true c))
    ∗ all (fun i => oPts c (rows (xDev c) i) (fin m true c))
    ∗ (all (at1 c 0) ∗ all (at1 c 1) ∗ all (at1 c 2) ∗ all (at1 c 3)))

theorem wp_exchange (c : Dev nD) (fy fx : Arr F) (Q : PUnit → sProp 𝕄) :
    iprop((records m true K ∗ levAts L lv) ∗ owesE c (Ox c 0 + Oy c 0) ∗ exPre m c fy fx ∗ ((owesE c 0 ∗ exPost m c) -∗ Q ⟨⟩))
      ⊢ wpk c (exchange (F := F) c) Q := by
  unfold exchange exPre exPost
  rw [wpk_bind]
  iintro ⟨⟨#HR, #Hlev⟩, HO, ⟨Hx, Hoy, Hox, ⟨Ht0, Ht1, Ht2, Ht3⟩, ⟨Hc1, Hc3⟩, Ha0, Ha1, Ha2, Ha3⟩, Hk⟩
  iapply (wp_stage1 m K c fy)
  isplitr; · iexact HR
  isplitl [HO]; · iexact HO
  isplitl [Hx Hoy Ht0 Ht1]
  · isplitl [Hx]; · iexact Hx
    isplitl [Hoy]; · iexact Hoy
    isplitl [Ht0] <;> iassumption
  iintro ⟨HO, Hc0⟩
  rw [wpk_bind]
  iapply (wp_stage2 m K c fx)
  isplitr; · isplitr <;> iassumption
  isplitl [HO]; · iexact HO
  isplitl [Hc1 Ha1 Hox Ht2 Ht3]
  · isplitl [Hc1]; · iexact Hc1
    isplitl [Ha1]; · iexact Ha1
    isplitl [Hox]; · iexact Hox
    isplitl [Ht2] <;> iassumption
  iintro ⟨HO, Hc2, Ha1⟩
  rw [wpk_bind]
  iapply (wp_stage3 m K c)
  isplitr; · isplitr <;> iassumption
  isplitl [HO]; · iexact HO
  isplitl [Hc3 Ha3]; · isplitl [Hc3] <;> iassumption
  iintro ⟨HO, Ha3, Hox⟩
  iapply (wp_stage4 m K c Q)
  isplitr; · isplitr <;> iassumption
  isplitl [HO]; · iexact HO
  isplitl [Hc0 Ha0 Hc2 Ha2]
  · isplitl [Hc0]; · iexact Hc0
    isplitl [Ha0]; · iexact Ha0
    isplitl [Hc2] <;> iassumption
  iintro ⟨HO, Ha0, Hx, Ha2, Ho⟩
  iapply Hk
  isplitl [HO]; · iexact HO
  isplitl [Hx]; · iexact Hx
  isplitl [Ho]; · iexact Ho
  isplitl [Hox]; · iexact Hox
  isplitl [Ha0]; · iexact Ha0
  isplitl [Ha1]; · iexact Ha1
  isplitl [Ha2] <;> iassumption

end Cert.Exchange

end
-- ==== Proof.Body.lean ====
/-
# The body

Before the barrier a device hands each neighbour the rows of its own result the neighbour will send it; after it, the
exchange or the copy; then its semaphores, all waited out, are its own again at zero.
-/
module

public import proofs.«01_k».proof.Proof.Loops
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (sw : Bool) (K : Dev nD × CK → ℕ)

/-! ## The barrier -/

theorem wp_signalBar (c e : Dev nD) (d : Bool) (O : Tallies) (Q : PUnit → sProp 𝕄) :
    iprop(records m sw K ∗ owesE c (O + tallyAt (cell e kBar) () 1) ∗ dutyTok ER (cell e kBar) 0 d ∗ payK m sw e kBar d
        ∗ (owesE c O -∗ Q ⟨⟩))
      ⊢ wpk c (semSignalWord e barS 1#32 : KProg F PUnit) Q := by
  unfold owesE
  iintro ⟨#HR, ⟨%W, HO⟩, Ht, Hp, Hk⟩
  ihave #HI := (inv_at m sw K e kBar) $$ HR
  ihave #Hr := (reached_at m sw K e kBar) $$ HR
  iapply (Rounds.wp_signal 𝒱₀ ER (Rd m sw) (c : Thread nD τ) none (dst := (e : Thread nD τ)) (sem := barS) (κ := K (e, kBar))
      (d := d) (r := 0) (by show d ∈ (Rd m sw).duties (cell e kBar) 0; rw [duties_cell]; exact Finset.mem_univ _)
      ((amount_cell m sw e kBar d).trans (by decide)) () O rfl) $$ [HO Ht Hp]
  · isplitr; · iexact HI
    isplitl [HO]; · iexact HO
    isplitl [Ht]; · iexact Ht
    isplitl [Hp]; · iapply (show payK m sw e kBar d ⊢ (Rd m sw).payload ((e : Thread nD τ), .reg barS) 0 d from Entails.of_eq (payload_cell m sw e kBar d).symm); iexact Hp
    iexact Hr
  iintro HO
  rw [wp_ret]; imodintro
  iapply Hk; iexists W; iexact HO

theorem wp_waitBar (c : Dev nD) (Q : PUnit → sProp 𝕄) :
    iprop(records m sw K ∗ levAts L lv ∗ cred (tallyAt (cell c kBar) () 2) ∗ owesE c (Osnd sw c) ∗ atPos ER (cell c kBar) 0 ∅ 0
        ∗ ((owesE c (Osnd sw c) ∗ atPos ER (cell c kBar) 1 ∅ 0 ∗ payK m sw c kBar false ∗ payK m sw c kBar true) -∗ Q ⟨⟩))
      ⊢ wpk c (semWaitWord barS 2#32 : KProg F PUnit) Q := by
  unfold owesE
  iintro ⟨#HR, #Hlev, Hc, ⟨%W, HO⟩, Hat, Hk⟩
  ihave #HI := (inv_at m sw K c kBar) $$ HR
  iapply (Rounds.wp_wait_rest_token 𝒱₀ ER (Rd m sw) (c : Thread nD τ) none (κ := K (c, kBar)) (sm := csem kBar)
      (wpE_semWait_eq 𝒱₀ (c : Thread nD τ) none Set.univ) (Set.mem_univ _) ()
      (O := Osnd sw c) (W := W) (R := 0) (m := 0) (T := ∅)
      ((Nat.zero_add _).trans ((by decide : (2#32).toNat = 2).trans (expect_bar m sw c).symm))) $$ [Hc HO Hat]
  · isplitr; · iexact HI
    isplitl [Hc]; · iexact Hc
    isplitl [HO]; · iexact HO
    isplitr; · iapply (mayWait c (csem kBar) 1 (Nat.le_of_eq (lv_cell c kBar)) (Osnd sw c) (above_Osnd (by omega) sw c)); iexact Hlev
    iexact Hat
  iintro ⟨HO, Hat, -, Hp⟩
  ihave Hp := (Entails.of_eq (rest_bar m sw c)) $$ Hp
  icases Hp with ⟨Hp, Hp'⟩
  rw [wp_ret]; imodintro
  iapply Hk
  isplitl [HO]; · iexists _; iexact HO
  isplitl [Hat]; · iexact Hat
  isplitl [Hp]; · iexact Hp
  iexact Hp'

/-! ## The word of `pi` -/

/-- `pi` as a device's body finds it; -/
def piStg (c : Dev nD) : (cc0_stg0_0 : Ref sig .tc).ty.Contents (Elt F) :=
  (win0_0.blk (0 : Fin 1)).view.read (Elt F) (m ((c : Thread nD τ).loc main_arg1))
def piPts (c : Dev nD) : sProp 𝕄 := ((c : Thread nD τ).loc cc0_stg0_0) ↦{fullShare} piStg m c

abbrev piR (c : Dev nD) : Rect S2 := Rect.unit (s := S2) (k0_off1 c) S1.size (k0_off1_inb c)
/-- the word of it the body reads. -/
abbrev piWord (c : Dev nD) : Elt F .i32 :=
  ((Memref.whole cc0_stg0_0).access (piR c) : View sig .tc _ _ _).read (Elt F) (piStg m c) (Shape.Idx.first (s := S1) (numel1_S1.symm ▸ Nat.one_pos))

theorem wp_piWord (c : Dev nD) (Q : Elt F .i32 → sProp 𝕄) :
    iprop(piPts m c ∗ (piPts m c -∗ Q (piWord m c))) ⊢ wpk c (smemLoad (win0_0.stage 0) (piR c) numel1_S1 rfl : KProg F _) Q := by
  unfold smemLoad piPts
  iintro ⟨Hp, Hk⟩
  iapply (wp_smemLoadElt 𝒱₀ (c : Thread nD τ) none Set.univ (m := Memref.whole cc0_stg0_0) (r := piR c) (Finset.subset_univ _)) $$ Hp
  iintro Hp
  rw [wp_ret]; imodintro
  iapply Hk; iexact Hp

theorem ne_cond (w y : BitVec 32) : Scalar.cmpi .ne (Scalar.extui (Scalar.cmpi .ne w y) : BitVec 32) 0#32 = 1#1 ↔ w ≠ y := by
  show BitVec.ofBool ((BitVec.ofBool (w != y)).setWidth 32 != 0#32) = 1#1 ↔ _
  by_cases h : w = y
  · rw [show (w != y) = false from by rw [h]; exact bne_self_eq_false y]
    exact ⟨fun e => absurd e (by decide), fun e => absurd h e⟩
  · rw [show (w != y) = true from bne_iff_ne.mpr h]
    exact ⟨fun _ => h, fun _ => by decide⟩
theorem eq_cond (w y : BitVec 32) : Scalar.cmpi .ne (Scalar.extui (Scalar.cmpi .eq w y) : BitVec 32) 0#32 = 1#1 ↔ w = y := by
  show BitVec.ofBool ((BitVec.ofBool (w == y)).setWidth 32 != 0#32) = 1#1 ↔ _
  by_cases h : w = y
  · rw [show (w == y) = true from beq_iff_eq.mpr h]
    exact ⟨fun _ => h, fun _ => by decide⟩
  · rw [show (w == y) = false from beq_eq_false_iff_ne.mpr h]
    exact ⟨fun e => absurd e (by decide), fun e => absurd e h⟩

/-! ## A block by its rows -/

omit [FloatOps F] in
theorem oPts_half (c d : Dev nD) (f : Arr F) : (oPts d (half c) f : sProp 𝕄) = all fun i => oPts d (rows c i) f := by
  unfold oPts; exact Ring.pointsTo_sub_blocks (ℓ := (d : Thread nD τ).loc main_v1) (B := Fin 64) (rows c) (rows_disjoint c) (half c) (rows_cover c) f
omit [FloatOps F] in
theorem xPts_half (c d : Dev nD) (f : Arr F) : (xPts d (half c) f : sProp 𝕄) = all fun i => xPts d (rows c i) f := by
  unfold xPts; exact Ring.pointsTo_sub_blocks (ℓ := (d : Thread nD τ).loc main_arg0) (B := Fin 64) (rows c) (rows_disjoint c) (half c) (rows_cover c) f
omit [FloatOps F] in
theorem oPts_split (c d : Dev nD) (f : Arr F) : (oPts d Finset.univ f : sProp 𝕄) ⊣⊢ iprop(oPts d (half c) f ∗ oPts d (half (xDev c)) f) := by
  rw [half_compl]; unfold oPts; exact pointsTo_split_subset (Finset.subset_univ _)
omit [FloatOps F] in
theorem xPts_split (c d : Dev nD) (f : Arr F) : (xPts d Finset.univ f : sProp 𝕄) ⊣⊢ iprop(xPts d (half c) f ∗ xPts d (half (xDev c)) f) := by
  rw [half_compl]; unfold xPts; exact pointsTo_split_subset (Finset.subset_univ _)

/-! ## The semaphores at the end -/

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A semaphore waited for is the device's again, at zero; -/
theorem close1 (c : Dev nD) (k : CK) : iprop(records m sw K ∗ atPos ER (cell c k) 1 ∅ 0) ⊢ iprop(|={Set.univ}=> (semVal (cell c k) 0 : sProp 𝕄)) := by
  iintro ⟨#HR, Hat⟩
  ihave #HI := (inv_at m sw K c k) $$ HR
  iapply (Rounds.cell_close ER (Rd m sw) (Set.mem_univ (K (c, k))) (fun h => h) (R := 1) (duties_later m sw (cell c k)))
  isplitr; · iexact HI
  iexact Hat
omit [FloatOps F] in
/-- so is one nothing lands at. -/
theorem close0 (c : Dev nD) (k : CK) (h : dutiesK sw k = ∅) :
    iprop(records m sw K ∗ atPos ER (cell c k) 0 ∅ 0) ⊢ iprop(|={Set.univ}=> (semVal (cell c k) 0 : sProp 𝕄)) := by
  iintro ⟨#HR, Hat⟩
  ihave #HI := (inv_at m sw K c k) $$ HR
  iapply (Rounds.cell_close ER (Rd m sw) (Set.mem_univ (K (c, k))) (fun h => h) (R := 0)
    (fun r _ => by
      rcases Nat.eq_zero_or_pos r with rfl | hr
      · rw [duties_cell]; exact h
      · exact duties_later m sw (cell c k) r hr))
  isplitr; · iexact HI
  iexact Hat

omit [FloatOps F] in
theorem closeAll (c : Dev nD) (R : ℕ) (a : Fin 4)
    (h : ∀ i, iprop(records m sw K ∗ atPos ER (cell c (kArr a i)) R ∅ 0) ⊢ iprop(|={Set.univ}=> (semVal (cell c (kArr a i)) 0 : sProp 𝕄))) :
    iprop(records m sw K ∗ all fun i => atPos ER (cell c (kArr a i)) R ∅ 0)
      ⊢ iprop(|={Set.univ}=> all fun i => (semVal (cell c (kArr a i)) 0 : sProp 𝕄)) :=
  (bigSep_with_persistent fun i _ => h i).trans (bigSep_fupd _ _)

omit [FloatOps F] in
/-- One thing per semaphore of a device: the barrier's, the copy's, the four arrays'. -/
theorem bigSep_CK (Φ : CK → sProp 𝕄) : bigSep Finset.univ Φ
    = iprop(Φ kBar ∗ Φ kCp ∗ (all fun i => Φ (kArr 0 i)) ∗ (all fun i => Φ (kArr 1 i)) ∗ (all fun i => Φ (kArr 2 i)) ∗ (all fun i => Φ (kArr 3 i))) := by
  rw [bigSep_univ_sum, bigSep_univ_sum, bigSep_univ_prod,
    bigSep_univ_eq_bigSepL [(0 : Fin 4), 1, 2, 3] (by decide) (by decide) (fun a => bigSep Finset.univ fun i => Φ (.inr (.inr (a, i)))),
    bigSep_univ_eq_bigSepL [()] (by decide) (by decide) (fun u => Φ (.inl u)),
    bigSep_univ_eq_bigSepL [()] (by decide) (by decide) (fun u => Φ (.inr (.inl u)))]
  rfl

end Cert.Exchange

end
-- ==== Proof.BodyWhole.lean ====
/-
# The body, whole

From what a device starts with to what it ends with, in either mode.
-/
module

public import proofs.«01_k».proof.Proof.Body
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The tokens of the duties device `c` pays: of both neighbours' barriers, of its copy, of its sends and their landings. -/
def payToks (c : Dev nD) : sProp 𝕄 :=
  iprop(dutyTok ER (cell (yDev c) kBar) 0 false ∗ dutyTok ER (cell (xDev c) kBar) 0 true ∗ dutyTok ER (cell c kCp) 0 false
    ∗ all (tok c 0) ∗ all (tok (yDev c) 1) ∗ all (tok c 2) ∗ all (tok (xDev c) 3))

/-- The credit of the landings it waits for without having sent them. -/
def credK : Bool → Dev nD → sProp 𝕄
  | true, c => iprop(all (crd c 1) ∗ all (crd c 3))
  | false, _ => iprop(emp)

/-- What it keeps of its result past the barrier. -/
def keptO : Bool → Dev nD → sProp 𝕄
  | true, _ => iprop(emp)
  | false, c => iprop(∃ f, oPts c Finset.univ f)

/-- Its own semaphores' positions at the start, their counters at the end. -/
def ownAt (c : Dev nD) : sProp 𝕄 :=
  iprop(atPos ER (cell c kCp) 0 ∅ 0 ∗ all (at0 c 0) ∗ all (at0 c 1) ∗ all (at0 c 2) ∗ all (at0 c 3))
def ownZero (c : Dev nD) : sProp 𝕄 :=
  iprop(semVal (cell c kCp) 0 ∗ (all fun i => semVal (cell c (kArr 0 i)) 0) ∗ (all fun i => semVal (cell c (kArr 1 i)) 0)
    ∗ (all fun i => semVal (cell c (kArr 2 i)) 0) ∗ (all fun i => semVal (cell c (kArr 3 i)) 0))

omit [FloatOps F] in
theorem payK_bar (c : Dev nD) (d : Bool) : payK m true c kBar d = iprop(∃ f, oPts (if d then xDev c else yDev c) (half c) f) := by
  unfold payK; exact if_pos rfl
omit [FloatOps F] in
theorem payK_bar_keep (c : Dev nD) (d : Bool) : payK m false c kBar d = iprop(emp) := by
  unfold payK; exact if_neg Bool.false_ne_true

omit [FloatOps F] in
/-- Before the barrier: each neighbour gets the rows it will send to. -/
theorem give (sw : Bool) (c : Dev nD) :
    iprop(∃ f, oPts c Finset.univ f) ⊢ iprop(payK m sw (yDev c) kBar false ∗ payK m sw (xDev c) kBar true ∗ keptO (F := F) sw c) := by
  cases sw with
  | true =>
    rw [payK_bar, payK_bar, if_neg Bool.false_ne_true, if_pos rfl, yDev_yDev, xDev_xDev, half_congr (yDev_half c)]
    unfold keptO
    iintro ⟨%f, H⟩
    ihave H := (oPts_split c c f).1 $$ H
    icases H with ⟨H1, H2⟩
    isplitl [H1]; · iexists f; iexact H1
    isplitl [H2]; · iexists f; iexact H2
    iempintro
  | false =>
    rw [payK_bar_keep, payK_bar_keep]
    unfold keptO
    iintro H
    isplitr; · iempintro
    isplitr; · iempintro
    iexact H

/-- What follows the barrier, by the word read. -/
abbrev after (c : Dev nD) (w : BitVec 32) : KProg F PUnit := do
  if Scalar.cmpi .ne (Scalar.extui (Scalar.cmpi .ne w (yWord c)) : BitVec 32) 0#32 = 1#1 then exchange c else pure ⟨⟩
  if Scalar.cmpi .ne (Scalar.extui (Scalar.cmpi .eq w (yWord c)) : BitVec 32) 0#32 = 1#1 then keep else pure ⟨⟩

/-- What it starts from, and ends at. -/
def afterPre (sw : Bool) (c : Dev nD) : sProp 𝕄 :=
  iprop(owesE c (Osnd sw c) ∗ payK m sw c kBar false ∗ payK m sw c kBar true ∗ keptO sw c ∗ xPts c Finset.univ (xAt m c)
    ∗ (dutyTok ER (cell c kCp) 0 false ∗ all (tok c 0) ∗ all (tok (yDev c) 1) ∗ all (tok c 2) ∗ all (tok (xDev c) 3))
    ∗ credK sw c ∗ ownAt c)
def afterPost (sw : Bool) (c : Dev nD) : sProp 𝕄 :=
  iprop(owesE c 0 ∗ ownZero c ∗ xPts c Finset.univ (xAt m c) ∗ oPts c Finset.univ (fin m sw c))

/-- The block exchanged. -/
theorem wp_after_exchange (c : Dev nD) (w : BitVec 32) (hw : w ≠ yWord c) (Q : PUnit → sProp 𝕄) :
    iprop((records m true K ∗ levAts L lv) ∗ afterPre m true c ∗ (afterPost m true c -∗ Q ⟨⟩)) ⊢ wpk c (after (F := F) c w) Q := by
  unfold after afterPre afterPost ownAt
  rw [if_pos ((ne_cond _ _).mpr hw), if_neg (fun h => hw ((eq_cond _ _).mp h)), wpk_seq, payK_bar, payK_bar, if_neg Bool.false_ne_true, if_pos rfl,
    show Osnd true c = Ox c 0 + Oy c 0 from if_pos rfl]
  unfold credK
  iintro ⟨⟨#HR, #Hlev⟩, ⟨HO, ⟨%fy, Hoy⟩, ⟨%fx, Hox⟩, -, Hx, ⟨-, Ht0, Ht1, Ht2, Ht3⟩, ⟨Hc1, Hc3⟩, Hacp, Ha0, Ha1, Ha2, Ha3⟩, Hk⟩
  ihave Hx := (xPts_split c c (xAt m c)).1 $$ Hx
  icases Hx with ⟨Hx, Hx'⟩
  ihave Hx := (Entails.of_eq (xPts_half c c (xAt m c))) $$ Hx
  ihave Hoy := (Entails.of_eq (oPts_half c (yDev c) fy)) $$ Hoy
  ihave Hox := (Entails.of_eq (oPts_half c (xDev c) fx)) $$ Hox
  iapply (wp_exchange m K c fy fx)
  isplitr; · isplitr <;> iassumption
  isplitl [HO]; · iexact HO
  isplitl [Hx Hoy Hox Ht0 Ht1 Ht2 Ht3 Hc1 Hc3 Ha0 Ha1 Ha2 Ha3]
  · unfold exPre
    isplitl [Hx]; · iexact Hx
    isplitl [Hoy]; · iexact Hoy
    isplitl [Hox]; · iexact Hox
    isplitl [Ht0 Ht1 Ht2 Ht3]
    · isplitl [Ht0]; · iexact Ht0
      isplitl [Ht1]; · iexact Ht1
      isplitl [Ht2] <;> iassumption
    isplitl [Hc1 Hc3]; · isplitl [Hc1] <;> iassumption
    isplitl [Ha0]; · iexact Ha0
    isplitl [Ha1]; · iexact Ha1
    isplitl [Ha2] <;> iassumption
  unfold exPost
  iintro ⟨HO, Hx, Ho, Ho', Ha0, Ha1, Ha2, Ha3⟩
  iapply (show _ ⊢ wpk c (pure ⟨⟩ : KProg F PUnit) Q from BI.Entails.refl _)
  unfold wpk
  rw [show (pure ⟨⟩ : KProg F PUnit) = .ret ⟨⟩ from rfl, wp_ret]
  imod (close0 m true K c kCp rfl) $$ [Hacp] with Hz
  · isplitr; · iexact HR
    iexact Hacp
  imod (closeAll m true K c 1 0 fun i => close1 m true K c (kArr 0 i)) $$ [Ha0] with Hz0
  · isplitr; · iexact HR
    iexact Ha0
  imod (closeAll m true K c 1 1 fun i => close1 m true K c (kArr 1 i)) $$ [Ha1] with Hz1
  · isplitr; · iexact HR
    iexact Ha1
  imod (closeAll m true K c 1 2 fun i => close1 m true K c (kArr 2 i)) $$ [Ha2] with Hz2
  · isplitr; · iexact HR
    iexact Ha2
  imod (closeAll m true K c 1 3 fun i => close1 m true K c (kArr 3 i)) $$ [Ha3] with Hz3
  · isplitr; · iexact HR
    iexact Ha3
  imodintro
  iapply Hk
  unfold ownZero
  isplitl [HO]; · iexact HO
  isplitl [Hz Hz0 Hz1 Hz2 Hz3]
  · isplitl [Hz]; · iexact Hz
    isplitl [Hz0]; · iexact Hz0
    isplitl [Hz1]; · iexact Hz1
    isplitl [Hz2] <;> iassumption
  isplitl [Hx Hx']
  · iapply (xPts_split c c (xAt m c)).2
    isplitl [Hx]; · iapply (Entails.of_eq (xPts_half c c (xAt m c)).symm); iexact Hx
    iexact Hx'
  · iapply (oPts_split c c (fin m true c)).2
    isplitl [Ho]; · iapply (Entails.of_eq (oPts_half c c (fin m true c)).symm); iexact Ho
    iapply (Entails.of_eq (oPts_half (xDev c) c (fin m true c)).symm); iexact Ho'

/-- The block kept. -/
theorem wp_after_keep (c : Dev nD) (w : BitVec 32) (hw : w = yWord c) (Q : PUnit → sProp 𝕄) :
    iprop((records m false K ∗ levAts L lv) ∗ afterPre m false c ∗ (afterPost m false c -∗ Q ⟨⟩)) ⊢ wpk c (after (F := F) c w) Q := by
  unfold after afterPre afterPost ownAt
  rw [if_neg (fun h => (ne_cond _ _).mp h hw), if_pos ((eq_cond _ _).mpr hw), show Osnd false c = 0 from if_neg Bool.false_ne_true]
  unfold keptO
  show _ ⊢ wpk c (keep (F := F)) Q
  iintro ⟨⟨#HR, #Hlev⟩, ⟨HO, -, -, ⟨%f, Ho⟩, Hx, ⟨Ht, -⟩, -, Hacp, Ha0, Ha1, Ha2, Ha3⟩, Hk⟩
  unfold wpk
  imod (closeAll m false K c 0 0 fun i => close0 m false K c (kArr 0 i) rfl) $$ [Ha0] with Hz0
  · isplitr; · iexact HR
    iexact Ha0
  imod (closeAll m false K c 0 1 fun i => close0 m false K c (kArr 1 i) rfl) $$ [Ha1] with Hz1
  · isplitr; · iexact HR
    iexact Ha1
  imod (closeAll m false K c 0 2 fun i => close0 m false K c (kArr 2 i) rfl) $$ [Ha2] with Hz2
  · isplitr; · iexact HR
    iexact Ha2
  imod (closeAll m false K c 0 3 fun i => close0 m false K c (kArr 3 i) rfl) $$ [Ha3] with Hz3
  · isplitr; · iexact HR
    iexact Ha3
  iapply (wp_fupd frame (wpE (defs₀ (F := F)) 𝒱₀ (c : Thread nD τ) none) Set.univ (keep (F := F)) Q)
  iapply (wp_keep m K c f)
  isplitr; · iexact HR
  isplitr; · iexact Hlev
  isplitl [Hx]; · iexact Hx
  isplitl [Ho]; · iexact Ho
  isplitl [HO]; · iexact HO
  isplitl [Ht]; · iexact Ht
  isplitl [Hacp]; · iexact Hacp
  iintro ⟨HO, Hacp, Hx, Ho⟩
  imod (close1 m false K c kCp) $$ [Hacp] with Hz
  · isplitr; · iexact HR
    iexact Hacp
  imodintro
  iapply Hk
  unfold ownZero
  isplitl [HO]; · iexact HO
  isplitl [Hz Hz0 Hz1 Hz2 Hz3]
  · isplitl [Hz]; · iexact Hz
    isplitl [Hz0]; · iexact Hz0
    isplitl [Hz1]; · iexact Hz1
    isplitl [Hz2] <;> iassumption
  isplitl [Hx]; · iexact Hx
  iexact Ho

/-- The word a device reads says to exchange, or to keep. -/
def Says (sw : Bool) : Prop := ∀ c : Dev nD, if sw then piWord m c ≠ yWord c else piWord m c = yWord c

theorem wp_after (sw : Bool) (h : Says m sw) (c : Dev nD) (Q : PUnit → sProp 𝕄) :
    iprop((records m sw K ∗ levAts L lv) ∗ afterPre m sw c ∗ (afterPost m sw c -∗ Q ⟨⟩)) ⊢ wpk c (after (F := F) c (piWord m c)) Q := by
  have hc := h c
  cases sw with
  | true => exact wp_after_exchange m K c _ (by rwa [if_pos rfl] at hc) Q
  | false => exact wp_after_keep m K c _ (by rwa [if_neg Bool.false_ne_true] at hc) Q

/-- What a device's body starts from, and ends at. -/
def bodyPre (sw : Bool) (c : Dev nD) : sProp 𝕄 :=
  iprop(owesE c (O₀ sw c) ∗ (bigSep Finset.univ fun k : CK => atPos ER (cell c k) 0 ∅ 0) ∗ payToks c
    ∗ cred (tallyAt (cell c kBar) () 2) ∗ credK sw c ∗ xPts c Finset.univ (xAt m c) ∗ (∃ f, oPts c Finset.univ f) ∗ piPts m c)
def bodyPost (sw : Bool) (c : Dev nD) : sProp 𝕄 :=
  iprop(owesE c 0 ∗ (bigSep Finset.univ fun k : CK => semVal (cell c k) 0) ∗ xPts c Finset.univ (xAt m c) ∗ oPts c Finset.univ (fin m sw c) ∗ piPts m c)

theorem wp_device (c : Dev nD) (Q : Dev nD → sProp 𝕄) : Q c ⊢ wpk c (Prog.lift .deviceId : KProg F _) Q := by
  unfold wpk Prog.lift; rw [wp_deviceId, wp_ret]; iintro H; imodintro; iexact H

/-- The body. -/
theorem wp_body (sw : Bool) (h : Says m sw) (c : Dev nD) (Q : PUnit → sProp 𝕄) :
    iprop((records m sw K ∗ levAts L lv) ∗ bodyPre m sw c ∗ (bodyPost m sw c -∗ Q ⟨⟩)) ⊢ wpk c (compact (F := F)) Q := by
  unfold bodyPre bodyPost payToks compact
  rw [bigSep_CK, bigSep_CK]
  iintro ⟨⟨#HR, #Hlev⟩, ⟨HO, ⟨HaB, Hacp, Ha0, Ha1, Ha2, Ha3⟩, ⟨HtY, HtX, Htcp, Ht0, Ht1, Ht2, Ht3⟩, HcB, Hcr, Hx, Ho, Hpi⟩, Hk⟩
  ihave Hg := (give m sw c) $$ Ho
  icases Hg with ⟨HpY, HpX, Hkept⟩
  rw [wpk_seq]
  iapply (wp_device c)
  rw [wpk_seq]
  iapply (wp_piWord m c)
  isplitl [Hpi]; · iexact Hpi
  iintro Hpi
  rw [wpk_seq]
  iapply (wp_signalBar m sw K c (yDev c) false (O₁ sw c))
  isplitr; · iexact HR
  isplitl [HO]; · iexact HO
  isplitl [HtY]; · iexact HtY
  isplitl [HpY]; · iexact HpY
  iintro HO
  rw [wpk_seq]
  iapply (wp_signalBar m sw K c (xDev c) true (Osnd sw c))
  isplitr; · iexact HR
  isplitl [HO]; · iexact HO
  isplitl [HtX]; · iexact HtX
  isplitl [HpX]; · iexact HpX
  iintro HO
  rw [wpk_seq]
  iapply (wp_waitBar m sw K c)
  isplitr; · iexact HR
  isplitr; · iexact Hlev
  isplitl [HcB]; · iexact HcB
  isplitl [HO]; · iexact HO
  isplitl [HaB]; · iexact HaB
  iintro ⟨HO, HaB, Hp, Hp'⟩
  imod (close1 m sw K c kBar) $$ [HaB] with HzB
  · isplitr; · iexact HR
    iexact HaB
  iapply (wp_after m K sw h c Q)
  isplitr; · isplitr <;> iassumption
  isplitl [HO Hp Hp' Hkept Hx Htcp Ht0 Ht1 Ht2 Ht3 Hcr Hacp Ha0 Ha1 Ha2 Ha3]
  · unfold afterPre ownAt
    isplitl [HO]; · iexact HO
    isplitl [Hp]; · iexact Hp
    isplitl [Hp']; · iexact Hp'
    isplitl [Hkept]; · iexact Hkept
    isplitl [Hx]; · iexact Hx
    isplitl [Htcp Ht0 Ht1 Ht2 Ht3]
    · isplitl [Htcp]; · iexact Htcp
      isplitl [Ht0]; · iexact Ht0
      isplitl [Ht1]; · iexact Ht1
      isplitl [Ht2] <;> iassumption
    isplitl [Hcr]; · iexact Hcr
    isplitl [Hacp]; · iexact Hacp
    isplitl [Ha0]; · iexact Ha0
    isplitl [Ha1]; · iexact Ha1
    isplitl [Ha2] <;> iassumption
  unfold afterPost ownZero
  iintro ⟨HO, Hz, Hx, Ho⟩
  iapply Hk
  isplitl [HO]; · iexact HO
  isplitl [HzB Hz]
  · isplitl [HzB] <;> iassumption
  isplitl [Hx]; · iexact Hx
  isplitl [Ho] <;> iassumption

end Cert.Exchange

end
-- ==== Proof.Setup.lean ====
/-
# Setting the protocol up

The ghost state the launch makes: every cell's round, the positions, the tokens dealt to the devices that pay, the
invariants allocated on every device at once, and the credit each device holds for what its neighbours owe it.
-/
module

public import proofs.«01_k».proof.Proof.BodyWhole
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (sw : Bool)

/-! ## Tokens -/

theorem cells_injective : Function.Injective (fun ck : Dev nD × CK => cell ck.1 ck.2) := by
  rintro ⟨c, k⟩ ⟨c', k'⟩ h
  obtain ⟨rfl, rfl⟩ := cell_inj h; rfl
def allCells : Finset (GSem nD τ sig) := Finset.univ.map ⟨fun ck : Dev nD × CK => cell ck.1 ck.2, cells_injective⟩

/-- A device's duties: the second of its barrier, and one of each of its semaphores. -/
abbrev TK : Type := Unit ⊕ CK
def tokAt (ct : Dev nD × TK) : GSem nD τ sig × ℕ × Bool :=
  match ct.2 with
  | .inl _ => (cell ct.1 kBar, 0, true)
  | .inr k => (cell ct.1 k, 0, false)
theorem tokAt_injective : Function.Injective tokAt := by
  rintro ⟨c, t⟩ ⟨c', t'⟩ h
  rcases t with ⟨⟩ | k <;> rcases t' with ⟨⟩ | k' <;> unfold tokAt at h <;> dsimp only at h
  · obtain ⟨rfl, -⟩ := cell_inj (congrArg Prod.fst h); rfl
  · exact absurd (congrArg (fun x => x.2.2) h) Bool.true_eq_false_eq_False
  · exact absurd (congrArg (fun x => x.2.2) h) Bool.false_ne_true
  · obtain ⟨rfl, rfl⟩ := cell_inj (congrArg Prod.fst h); rfl
def allToks : Finset (GSem nD τ sig × ℕ × Bool) := Finset.univ.map ⟨tokAt, tokAt_injective⟩

/-- The launch's ghost state: the staging's and the protocol's. -/
def u₀ : UU := (initOf (Pipeline.cells cfgs cellOf_inj) (Pipeline.launchToks cfgs cellOf_inj), initOf allCells allToks)

/-- The tokens of device `c`'s own cells. -/
def toks (c : Dev nD) : sProp 𝕄 :=
  iprop(dutyTok ER (cell c kBar) 0 true ∗ bigSep Finset.univ fun k : CK => dutyTok ER (cell c k) 0 false)

def G (c : Dev nD) : sProp 𝕄 :=
  iprop((bigSep Finset.univ fun k : CK => roundState ER (Rd m sw) (cell c k) 0)
    ∗ (bigSep Finset.univ fun k : CK => iprop(atPos ER (cell c k) 0 ∅ 0 ∗ reached ER (cell c k) 0)) ∗ toks c)

/-- What a device has once the protocol stands. -/
def linear (c : Dev nD) : sProp 𝕄 := iprop((bigSep Finset.univ fun k : CK => atPos ER (cell c k) 0 ∅ 0) ∗ payToks c)
def G' (c : Dev nD) : sProp 𝕄 := iprop((∃ K, records m sw K) ∗ linear c)

omit [FloatOps F] in
theorem bigSep_cells (Φ : GSem nD τ sig → sProp 𝕄) :
    bigSep allCells Φ = bigSep Finset.univ fun c : Dev nD => bigSep Finset.univ fun k : CK => Φ (cell c k) := by
  unfold allCells; rw [bigSep_map, bigSep_univ_prod]; rfl
omit [FloatOps F] in
theorem bigSep_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_sum, bigSep_univ_eq_bigSepL [()] (by decide) (by decide) (fun u => _)]
  rfl

omit [FloatOps F] in
theorem fund_cells : BI.own (ER (initOf allCells allToks)) ⊢ (|==> bigSep Finset.univ (G m sw) : sProp 𝕄) := by
  iintro HX
  imod (Rounds.fund ER (Rd m sw) allCells allToks) $$ HX with ⟨Hst, Hr, Hat, Htok⟩
  imodintro
  ihave Hst := (Entails.of_eq (bigSep_cells fun g => roundState ER (Rd m sw) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq bigSep_toks) $$ Htok
  unfold G; simp only [bigSep_sep']
  isplitl [Hst]; · iexact Hst
  isplitl [Hat Hr]
  · isplitl [Hat] <;> iassumption
  iexact Htok

/-! ## The semaphores at zero -/

omit [FloatOps F] in
theorem unscopedSems0_eq (c : Dev nD) : (unscopedSems0 c : sProp 𝕄) = semVal (cell c kBar) 0 := by
  unfold unscopedSems0; rw [bigSep_eq_bigSepL_of_eq [SemLoc.reg barS] (by decide +kernel) (by decide)]; rfl

omit [FloatOps F] in
/-- The launch's one unscoped semaphore and the kernel's own are the semaphores of the protocol. -/
theorem sems0_eq (c : Dev nD) : (bigSep Finset.univ fun k : CK => semVal (cell c k) 0 : sProp 𝕄)
    = iprop(unscopedSems0 c ∗ Pipeline.ownSems0 (Ix := Unit) (Name := ℕ) (U := UU) (Lvl := ℕ) (Val := Elt F) (τ := τ) osem c) := by
  rw [bigSep_univ_sum, bigSep_univ_eq_bigSepL [()] (by decide) (by decide) (fun u => semVal (cell c (.inl u)) 0), unscopedSems0_eq]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m sw c)
      ⊢ |={Set.univ}=> iprop((bigSep Finset.univ fun k : CK => iprop(∃ κ : ℕ, cellInv ER (Rd m sw) κ (cell c k)))
          ∗ (bigSep Finset.univ fun k : CK => iprop(atPos ER (cell c k) 0 ∅ 0 ∗ reached ER (cell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (cell c k) 0) ∗ bigSep Finset.univ fun k : CK => roundState ER (Rd m sw) (cell c k) 0)
      ⊢ (|={Set.univ}=> bigSep Finset.univ fun k : CK => iprop(∃ κ : ℕ, cellInv ER (Rd m sw) κ (cell c k)) : sProp 𝕄) from by
        rw [← bigSep_sep']
        exact (bigSep_mono fun k _ => (Rounds.body_intro ER (Rd m sw) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

omit [FloatOps F] in
theorem toks_dealt : (bigSep Finset.univ fun c : Dev nD => (toks c : sProp 𝕄)) ⊢ bigSep Finset.univ fun c : Dev nD => payToks c := by
  have h (c : Dev nD) : (toks c : sProp 𝕄) = iprop(dutyTok ER (cell c kBar) 0 true ∗ dutyTok ER (cell c kBar) 0 false ∗ dutyTok ER (cell c kCp) 0 false
      ∗ all (tok c 0) ∗ all (tok c 1) ∗ all (tok c 2) ∗ all (tok c 3)) := by unfold toks; rw [bigSep_CK]
  unfold payToks
  rw [bigSep_congr fun c _ => h c]
  simp only [bigSep_sep']
  rw [bigSep_univ_equiv yPeer (fun c : Dev nD => (dutyTok ER (cell c kBar) 0 false : sProp 𝕄)),
    bigSep_univ_equiv xPeer (fun c : Dev nD => (dutyTok ER (cell c kBar) 0 true : sProp 𝕄)),
    bigSep_univ_equiv yPeer (fun c : Dev nD => (all (tok c 1) : sProp 𝕄)),
    bigSep_univ_equiv xPeer (fun c : Dev nD => (all (tok c 3) : sProp 𝕄))]
  iintro ⟨H1, H2, H3, H4, H5, H6, H7⟩
  isplitl [H2]; · iexact H2
  isplitl [H1]; · iexact H1
  isplitl [H3]; · iexact H3
  isplitl [H4]; · iexact H4
  isplitl [H5]; · iexact H5
  isplitl [H6]; · iexact H6
  iexact H7

omit [FloatOps F] in
theorem records_give (K : Dev nD × CK → ℕ) (c : Dev nD) : iprop(records m sw K ∗ linear c) ⊢ G' m sw c := by
  unfold G'
  iintro ⟨HR, HL⟩
  isplitl [HR]; · iexists K; iexact HR
  iexact HL

omit [FloatOps F] in
theorem regroup :
    (bigSep Finset.univ fun c : Dev nD => iprop((bigSep Finset.univ fun k : CK => iprop(∃ κ : ℕ, cellInv ER (Rd m sw) κ (cell c k)))
          ∗ (bigSep Finset.univ fun k : CK => iprop(atPos ER (cell c k) 0 ∅ 0 ∗ reached ER (cell c k) 0)) ∗ toks c) : sProp 𝕄)
      ⊢ bigSep Finset.univ (G' m sw) := by
  rw [bigSep_sep', bigSep_sep', ← bigSep_univ_prod (fun ck : Dev nD × CK => iprop(∃ κ : ℕ, cellInv ER (Rd m sw) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd m sw) κ (cell ck.1 ck.2) : sProp 𝕄))) $$ HI
  icases HK with ⟨%K, #HI⟩
  ihave Htk := (toks_dealt (F := F)) $$ Htok
  iapply (bigSep_with_persistent (R := records m sw K) fun c _ => records_give m sw K c)
  isplitr
  · unfold records; isplitl; · iexact HI
    iexact HR
  · unfold linear; rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m sw c) : sProp 𝕄)
    ⊢ |={Set.univ}=> bigSep Finset.univ (G' m sw) :=
  ((bigSep_mono fun c _ => core_alloc m sw c).trans (bigSep_fupd _ _)).trans (BI.fupd_mono (regroup m sw))

end Cert.Exchange

end
-- ==== Proof.Credit.lean ====
/-
# What the neighbours owe a device

The credit a device holds at launch: two units of its barrier, and, when the block is exchanged, every chunk it will receive.
-/
module

public import proofs.«01_k».proof.Proof.BodyWhole
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem tally_cell (e c : Dev nD) (k' k : CK) (n : ℕ) :
    (tallyAt (cell e k') () n : Tallies) (cell c k) () = if e = c ∧ k' = k then n else 0 := by
  rw [tallyAt_apply]
  by_cases h : e = c ∧ k' = k
  · obtain ⟨rfl, rfl⟩ := h; rw [if_pos ⟨rfl, rfl⟩, if_pos ⟨rfl, rfl⟩]
  · rw [if_neg (fun h' => h ⟨(cell_inj h'.1).1.symm, (cell_inj h'.1).2.symm⟩), if_neg h]

theorem Oy_at (d c : Dev nD) (k : CK) : Oy d 0 (cell c k) () = ∑ i : Fin 64, if yDev d = c ∧ kArr 1 i = k then N else 0 := by
  unfold Oy; rw [from_zero, Finset.sum_apply, Finsupp.finset_sum_apply]
  exact Finset.sum_congr rfl fun i _ => tally_cell _ _ _ _ _
theorem Ox_at (d c : Dev nD) (k : CK) : Ox d 0 (cell c k) () = ∑ i : Fin 64, if xDev d = c ∧ kArr 3 i = k then N else 0 := by
  unfold Ox; rw [from_zero, Finset.sum_apply, Finsupp.finset_sum_apply]
  exact Finset.sum_congr rfl fun i _ => tally_cell _ _ _ _ _

theorem sum_none (p : Prop) [Decidable p] (a : Fin 4) (k : CK) (h : ∀ i, kArr a i ≠ k) : (∑ i : Fin 64, if p ∧ kArr a i = k then N else 0) = 0 :=
  Finset.sum_eq_zero fun i _ => if_neg fun h' => h i h'.2
theorem sum_one (p : Prop) [Decidable p] (a : Fin 4) (j : Fin 64) : (∑ i : Fin 64, if p ∧ kArr a i = kArr a j then N else 0) = if p then N else 0 := by
  rw [Finset.sum_eq_single j (fun i _ hi => if_neg fun h => hi (congrArg Prod.snd (Sum.inr.inj (Sum.inr.inj h.2)))) (fun h => absurd (Finset.mem_univ _) h)]
  exact if_congr (and_iff_left rfl) rfl rfl
theorem arr_ne {a b : Fin 4} (h : a ≠ b) (i j : Fin 64) : kArr a i ≠ kArr b j := fun e => h (congrArg Prod.fst (Sum.inr.inj (Sum.inr.inj e)))
theorem arr_ne_bar (a : Fin 4) (i : Fin 64) : kArr a i ≠ kBar := fun h => Sum.inr_ne_inl h

theorem bar_none (p : Prop) [Decidable p] (a : Fin 4) (j : Fin 64) (n : ℕ) : (if p ∧ kBar = kArr a j then n else 0) = 0 :=
  if_neg fun h => arr_ne_bar a j h.2.symm

theorem Osnd_bar (sw : Bool) (d c : Dev nD) : Osnd sw d (cell c kBar) () = 0 := by
  unfold Osnd; split
  · rw [Pi.add_apply, Finsupp.add_apply, Oy_at, Ox_at, sum_none _ _ _ (arr_ne_bar 1), sum_none _ _ _ (arr_ne_bar 3)]
  · rfl
theorem Osnd_y (d c : Dev nD) (j : Fin 64) : Osnd true d (cell c (kArr 1 j)) () = if yDev d = c then N else 0 := by
  unfold Osnd
  rw [if_pos rfl, Pi.add_apply, Finsupp.add_apply, Oy_at, Ox_at, sum_one, sum_none _ _ _ fun i => arr_ne (by decide) i j, Nat.zero_add]
theorem Osnd_x (d c : Dev nD) (j : Fin 64) : Osnd true d (cell c (kArr 3 j)) () = if xDev d = c then N else 0 := by
  unfold Osnd
  rw [if_pos rfl, Pi.add_apply, Finsupp.add_apply, Oy_at, Ox_at, sum_one, sum_none _ _ _ fun i => arr_ne (by decide) i j, Nat.add_zero]

theorem O₀_at (sw : Bool) (d c : Dev nD) (k : CK) : O₀ sw d (cell c k) ()
    = Osnd sw d (cell c k) () + (if xDev d = c ∧ kBar = k then 1 else 0) + (if yDev d = c ∧ kBar = k then 1 else 0) := by
  unfold O₀ O₁
  rw [Pi.add_apply, Finsupp.add_apply, Pi.add_apply, Finsupp.add_apply, tally_cell, tally_cell]

theorem sum_yDev (c : Dev nD) (n : ℕ) : (∑ d : Dev nD, if yDev d = c then n else 0) = n := by
  rw [Finset.sum_eq_single (yDev c) (fun d _ hd => if_neg fun h => hd (by rw [← h, yDev_yDev])) (fun h => absurd (Finset.mem_univ _) h), yDev_yDev, if_pos rfl]
theorem sum_xDev (c : Dev nD) (n : ℕ) : (∑ d : Dev nD, if xDev d = c then n else 0) = n := by
  rw [Finset.sum_eq_single (xDev c) (fun d _ hd => if_neg fun h => hd (by rw [← h, xDev_xDev])) (fun h => absurd (Finset.mem_univ _) h), xDev_xDev, if_pos rfl]

theorem launch_of (sw : Bool) (c : Dev nD) (k : CK) (n : ℕ) (h : (∑ d : Dev nD, O₀ sw d (cell c k) ()) = n) :
    tallyOn (cell c k) (launchCredit (Pipeline.owing (O₀ sw)) 0 (cell c k)) = (tallyAt (cell c k) () n : Tallies) := by
  unfold tallyAt; refine congrArg _ (Finsupp.ext fun u => ?_); cases u
  rw [Pipeline.launchCredit_owing, Finsupp.single_eq_same, h]

theorem owed_bar (sw : Bool) (c : Dev nD) : (∑ d : Dev nD, O₀ sw d (cell c kBar) ()) = 2 := by
  rw [Finset.sum_congr rfl fun d _ => show O₀ sw d (cell c kBar) () = (if xDev d = c then 1 else 0) + (if yDev d = c then 1 else 0) by
    rw [O₀_at, Osnd_bar, Nat.zero_add]
    exact congrArg₂ _ (if_congr (and_iff_left rfl) rfl rfl) (if_congr (and_iff_left rfl) rfl rfl), Finset.sum_add_distrib, sum_xDev, sum_yDev]
theorem owed_y (c : Dev nD) (j : Fin 64) : (∑ d : Dev nD, O₀ true d (cell c (kArr 1 j)) ()) = N := by
  rw [Finset.sum_congr rfl fun d _ => show O₀ true d (cell c (kArr 1 j)) () = if yDev d = c then N else 0 by
    rw [O₀_at, Osnd_y, bar_none, bar_none, Nat.add_zero], sum_yDev]
theorem owed_x (c : Dev nD) (j : Fin 64) : (∑ d : Dev nD, O₀ true d (cell c (kArr 3 j)) ()) = N := by
  rw [Finset.sum_congr rfl fun d _ => show O₀ true d (cell c (kArr 3 j)) () = if xDev d = c then N else 0 by
    rw [O₀_at, Osnd_x, bar_none, bar_none, Nat.add_zero], sum_xDev]

/-- A device's launch credit, cell by cell. -/
theorem credit_cells (sw : Bool) (c : Dev nD) : (Pipeline.launchCred (O₀ sw) c : sProp 𝕄)
    ⊢ bigSep Finset.univ fun k : CK => cred (tallyOn (cell c k) (launchCredit (Pipeline.owing (O₀ sw)) 0 (cell c k))) := by
  unfold Pipeline.launchCred
  refine (bigSep_subset (t := Finset.univ.map ⟨csem, csem_injective⟩) (Finset.subset_univ _)).trans ?_
  rw [bigSep_map]; exact BI.Entails.refl _

theorem credits (sw : Bool) (c : Dev nD) : (Pipeline.launchCred (O₀ sw) c : sProp 𝕄)
    ⊢ iprop(cred (tallyAt (cell c kBar) () 2) ∗ credK sw c) := by
  refine (credit_cells sw c).trans ?_
  rw [bigSep_CK, launch_of sw c kBar 2 (owed_bar sw c)]
  cases sw with
  | false =>
    unfold credK
    iintro ⟨H, -⟩
    isplitl [H]; · iexact H
    iempintro
  | true =>
    unfold credK
    simp only [launch_of true c (kArr 1 _) N (owed_y c _), launch_of true c (kArr 3 _) N (owed_x c _)]
    iintro ⟨H, -, -, Hy, -, Hx⟩
    isplitl [H]; · iexact H
    isplitl [Hy] <;> iassumption

end Cert.Exchange

end
-- ==== Proof.Run.lean ====
/-
# The run

Every device's body launched: the kernel ends, with every semaphore at zero, the arguments as they were and the result at
what the protocol says it ends at.
-/
module

public import proofs.«01_k».proof.Proof.Setup
public import proofs.«01_k».proof.Proof.Credit
public import Idealize.ShloMosaic.Lib.Pipeline.Launch
public import Idealize.ShloMosaic.Lib.Pipeline.Kit
public import Idealize.ShloMosaic.Lib.Pipeline.Quiescent
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (sw : Bool)

/-! ## The one point of the grid -/

abbrev s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's point starts from besides the staged `pi`, and what it ends at. -/
def start (c : Dev nD) : sProp 𝕄 :=
  iprop(G' m sw c ∗ (cred (tallyAt (cell c kBar) () 2) ∗ credK sw c) ∗ levAts L lv ∗ xPts c Finset.univ (xAt m c) ∗ (∃ f, oPts c Finset.univ f))
def done (c : Dev nD) : sProp 𝕄 :=
  iprop((bigSep Finset.univ fun k : CK => semVal (cell c k) 0) ∗ xPts c Finset.univ (xAt m c) ∗ oPts c Finset.univ (fin m sw c))

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => piStg m c
  Φ t := match t with
    | ⟨0, _⟩ => start m sw c
    | ⟨_ + 1, _⟩ => done m sw c
  q _ := fullShare
  owed t := match t with
    | ⟨0, _⟩ => O₀ sw c
    | ⟨_ + 1, _⟩ => 0

theorem fetch_0 (t : Fin cfg0.N) : (cfg0.win (0 : Fin 1)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body, as the launch asks for it -/

abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def ptPre (c : Dev nD) : sProp 𝕄 :=
  iprop(start m sw c ∗ (dats m ρ sw 0 c).owesAt () t₀.castSucc ∗ (∃ d, stg c ((dats m ρ sw 0 c).before (0 : Fin 1) t₀ d)))
def ptPost (c : Dev nD) : sProp 𝕄 :=
  iprop(done m sw c ∗ (dats m ρ sw 0 c).owesAt () t₀.succ ∗ stg c (piStg m c))

theorem point (h : Says m sw) (c : Dev nD) : ptPre m ρ sw c ⊢ wpk c (compact (F := F)) (fun _ => ptPost m ρ sw c) := by
  unfold ptPre ptPost start G' linear done
  iintro ⟨⟨⟨⟨%K, #HR⟩, Hat, Htk⟩, ⟨HcB, HcK⟩, #Hlev, Hx, Ho⟩, HO, ⟨%d, %g, %hg, Hpi⟩⟩
  have e : g = piStg m c := by
    rw [hg]; unfold Pipeline.Dat.before; rw [if_pos (fetch_0 t₀)]; rfl
  subst e
  iapply (wp_body m K sw h c)
  isplitr; · isplitr <;> iassumption
  isplitl [Hat Htk HcB HcK Hx Ho HO Hpi]
  · unfold bodyPre owesE
    isplitl [HO]
    · unfold Pipeline.Dat.owesAt Pipeline.owesWithin
      icases HO with ⟨%W, -, HO⟩
      iexists W; iexact HO
    isplitl [Hat]; · iexact Hat
    isplitl [Htk]; · iexact Htk
    isplitl [HcB]; · iexact HcB
    isplitl [HcK]; · iexact HcK
    isplitl [Hx]; · iexact Hx
    isplitl [Ho]; · iexact Ho
    unfold piPts; iexact Hpi
  unfold bodyPost owesE piPts
  iintro ⟨⟨%W, HO⟩, Hz, Hx, Ho, Hpi⟩
  isplitl [Hz Hx Ho]
  · isplitl [Hz]; · iexact Hz
    isplitl [Hx] <;> iassumption
  isplitl [HO]
  · unfold Pipeline.Dat.owesAt Pipeline.owesWithin
    iexists W
    isplitr; · ipureintro; exact fun _ _ => Or.inl trivial
    iexact HO
  iexists _; isplitr; · (ipureintro; rfl)
  iexact Hpi

set_option maxRecDepth 4000 in
theorem body_obligation (h : Says m sw) (c : Dev nD) :
    Pipeline.BodyObligation (dats (F := F) m ρ sw 0 c) (defs₀ (F := F)) 𝒱₀ () Set.univ := fun t => by
  rw [fin_N t]
  rw [bigSep_W0, bigSep_W0]
  simp only [owns_whole_eq]
  show ptPre m ρ sw c ⊢ wp frame (wpE (defs₀ (F := F)) 𝒱₀ c none) Set.univ
    (cc0_body xM (Memref.isWhole_whole _) (win0_0.stage 0) (hstage0_0 0) oM (Memref.isWhole_whole _)
      cc0_scratch0 cc0_scratch1 cc0_scratch2 cc0_scratch3 cc0_scratch4) (fun _ => ptPost m ρ sw c)
  rw [body_eq]
  exact point m ρ sw h c

/-! ## What the launch theorem asks besides -/

theorem ownSemFacts : Pipeline.OwnSemFacts cfg0.spec osem where
  isScoped k := by match k with | .inl _ => rfl | .inr (a, i) => revert a i; decide +kernel
  inj := fun k k' h => Sum.inr.inj (csem_injective (show csem (.inr k) = csem (.inr k') from h))
  disj := fun k w s h => by
    have hk := ckOf_csem (.inr k)
    rw [show csem (.inr k) = osem k from rfl, h] at hk
    have : ckOf (.dma ((cfg0.spec w).sem s)) = none := by
      fin_cases w; fin_cases s; rfl
    rw [this] at hk; exact absurd hk (by simp)

theorem share_eq (c : Dev nD) (w : Fin cfg0.W) : (dats m ρ sw 0 c).share w = fullShare := by unfold Pipeline.Dat.share; split <;> rfl

omit [FloatOps F] in
theorem rest_eq (c : Dev nD) : (Pipeline.unscopedRestP (Ix := Unit) (Name := ℕ) (U := UU) (Lvl := ℕ) Pipeline.Prefetch.none cfg0.spec c (fun b => m ((c : Thread nD τ).loc b)) : sProp 𝕄)
    = iprop(xPts c Finset.univ (xAt m c) ∗ oPts c Finset.univ (m ((c : Thread nD τ).loc main_v1))) :=
  Pipeline.unscopedRestP_eq_of_list cfg0.spec c Pipeline.Prefetch.none _ [main_arg0, main_v1] (by decide) (by decide)

theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' m sw c)
      ⊢ |={Set.univ}=> iprop(start m sw c ∗ emp) := by
  rw [rest_eq]
  iintro ⟨⟨Hx, Ho⟩, Hlev, Hcr, -, HG⟩
  ihave Hc := (credits (F := F) sw c) $$ Hcr
  imodintro
  unfold start
  isplitl
  · isplitl [HG]; · iexact HG
    isplitl [Hc]; · iexact Hc
    isplitl [Hlev]; · iexact Hlev
    isplitl [Hx]; · iexact Hx
    iexists _; iexact Ho
  · iempintro

theorem phi0_intro (c : Dev nD) :
    iprop(start m sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = start m sw c from rfl]
  iintro ⟨Hs, -⟩; iexact Hs

/-- What a device ends with beyond its own semaphores. -/
def kept (c : Dev nD) : sProp 𝕄 := iprop(unscopedSems0 c ∗ xPts c Finset.univ (xAt m c) ∗ oPts c Finset.univ (fin m sw c))

theorem phi1_exit (c : Dev nD) :
    (dats m ρ sw 0 c).Φ (Fin.last cfg0.N) ⊢ iprop(kept m sw c ∗ Pipeline.ownSems0 osem c ∗ Pipeline.scopedRest cfg0.spec c) := by
  rw [show (dats m ρ sw 0 c).Φ (Fin.last cfg0.N) = done m sw c from rfl, scopedRest0_eq]
  unfold done kept
  rw [sems0_eq]
  iintro ⟨⟨Hu, Hs⟩, Hx, Ho⟩
  isplitl [Hu Hx Ho]
  · isplitl [Hu]; · iexact Hu
    isplitl [Hx] <;> iassumption
  isplitl [Hs]; · iexact Hs
  iempintro

theorem waits (c : Dev nD) : (levAts L lv : sProp 𝕄) ⊢ Pipeline.cellsWaits cfgs (dats m ρ sw) () 0 c :=
  Pipeline.cellsWaits_intro cfgs (dats m ρ sw) () 0 c fun w s t =>
    mayWait c _ 0 (by fin_cases w; fin_cases s; exact Nat.le_refl 0) _ (by
      rcases t with ⟨_ | _, ht⟩
      · exact above_O₀ sw c
      · exact Above.zero 0)

/-! ## The run -/

/-- What one device's memory ends at. -/
def Ends (c : Dev nD) (s : MemSt nD τ sig (Elt F)) : Prop :=
  (s.mem ((c : Thread nD τ).loc main_arg0) = xAt m c ∧ s.mem ((c : Thread nD τ).loc main_v1) = fin m sw c)
    ∧ s.mem ((c : Thread nD τ).loc main_arg1) = m ((c : Thread nD τ).loc main_arg1)

omit [FloatOps F] in
theorem kept_read (c : Dev nD) (s' : Phys nD τ sig (Elt F)) :
    iprop(kept m sw c ∗ emp ∗ SI s') ⊢ |={Set.univ}=> iprop(⌜(s'.mem.mem ((c : Thread nD τ).loc main_arg0) = xAt m c ∧ s'.mem.mem ((c : Thread nD τ).loc main_v1) = fin m sw c)
      ∧ ∀ sm : SemLoc sig, sm.isScoped .tc = false → s'.mem.sem ((c.tc : Thread nD τ), sm) = 0⌝ ∗ SI s') := by
  unfold kept xPts oPts
  iintro ⟨⟨Hu, Hx, Ho⟩, -, HSI⟩
  icombine HSI Hx gives %hx
  icombine HSI Ho gives %ho
  ihave %hs := (tcUnscoped_read c s') $$ [Hu HSI]
  · isplitl [Hu] <;> iassumption
  imodintro
  isplitr
  · ipureintro
    exact ⟨⟨funext fun j => hx j (Finset.mem_univ _), funext fun j => ho j (Finset.mem_univ _)⟩, hs⟩
  iexact HSI

set_option maxRecDepth 8000 in
theorem run_main (h : Says m sw) :
    θ_run defs (onTc (τ := τ) (main (F := F))) (s₀ m ρ) (fun r => (∀ c, Ends m sw c r.2) ∧ r.2.sem = fun _ => 0) :=
  Pipeline.θ_run_region_owing_glob_pf (fun p => (cfgs p).toPCfg) (fun p => (cfgs p).toPCfg_adm) (dats m ρ sw) () cellOf_inj (0 : Fin 1)
    winFacts0.to₀ ownSemFacts (Pipeline.PreFacts.none _) EP defs₀ 𝒱₀ m ρ main
    (hmain := fun _ => rfl)
    (hbody := body_obligation m ρ sw h) (hne := fun w => by fin_cases w <;> exact Nat.succ_pos _) (harr := arr_whole0) (hstage := stage_whole0)
    (hshare := share_eq m ρ sw) (hdistinct := winFacts0.arr_inj)
    (O₀ := O₀ sw) (howed₀ := fun _ => rfl) (howedN := fun _ => rfl)
    (L := L) (lv := lv) (hL := L_of_ne) (hwaits := waits m ρ sw)
    (G := G m sw) (G' := G' m sw) (u₀ := u₀)
    (hu₀ := by
      unfold u₀
      iintro Hu
      ihave H := (ownU_pair _ _) $$ Hu
      icases H with ⟨HP, HX⟩
      imod (fund_cells m sw) $$ HX with HG
      imodintro
      isplitl [HP] <;> iassumption)
    (hglob := glob m sw)
    (hA := fun _ _ => rfl) (hpf := fun _ k => k.elim0)
    (X := start m sw) (Y := kept m sw) (Z := fun _ => iprop(emp))
    (hX := start_intro m ρ sw) (hin := phi0_intro m ρ sw) (hout := phi1_exit m ρ sw)
    (QY := fun c s => (s.mem ((c : Thread nD τ).loc main_arg0) = xAt m c ∧ s.mem ((c : Thread nD τ).loc main_v1) = fin m sw c)
      ∧ ∀ sm : SemLoc sig, sm.isScoped .tc = false → s.sem ((c.tc : Thread nD τ), sm) = 0)
    (hY := kept_read m sw)
    (hQ := fun _ h hs => ⟨fun c => ⟨(h c).2.2.1, ((h c).1 (0 : Fin 1)).trans ((dats (F := F) m ρ sw 0 c).arrAt_in (0 : Fin 1) rfl _)⟩,
      sem_eq_zero hs fun c => (h c).2.2.2⟩)

end Cert.Exchange

end
-- ==== Proof.Start.lean ====
/-
# What the preconditions say

Each precondition fixes the two words of `pi`; read at a device's own row, they say whether the devices trade blocks.
-/
module

public import proofs.«01_k».proof.Defs
public import proofs.«01_k».proof.Proof.Gen.Pre_exchanges_Kernel
public import proofs.«01_k».proof.Proof.Gen.Pre_keeps_Kernel
public import proofs.«01_k».proof.Proof.BodyWhole
public import Idealize.ShloMosaic.Lib.ValueIdxCore

@[expose] public section

noncomputable section

namespace Cert.Exchange

open Cert.KernelIdeal Cert.KernelIdeal.Gen

open Idealize.ShloMosaic
open Idealize.ShloMosaic.TcCoe
open Idealize.ShloMosaic.ValueIdx (ix1 eq_ix1)

variable {F : FTy → Type} [FloatOps F]

/-- The two words `a`, `b` as the contents of `pi`. -/
abbrev words (a b : BitVec 32) : IVec S2 32 := fun i => (![a, b] : Fin 2 → BitVec 32) (i 0)

theorem eq_words (p : IVec S2 32) {a b : BitVec 32} (h0 : p (ix1 (0 : Fin 2)) = a) (h1 : p (ix1 (1 : Fin 2)) = b) : p = words a b := by
  funext i
  obtain ⟨k, rfl⟩ : ∃ k : Fin 2, i = ix1 k := ⟨i 0, eq_ix1 i⟩
  match k with
  | 0 => exact h0
  | 1 => exact h1

/-- Two words both found equal. -/
theorem both_eq {a b u v : BitVec 32} (h : IntOp.andi (IntOp.cmpi .eq a u) (IntOp.cmpi .eq b v) = 1#1) : a = u ∧ b = v := by
  have hb : ∀ p q : Bool, IntOp.andi (BitVec.ofBool p) (BitVec.ofBool q) = 1#1 → (p && q) = true := by decide
  have := hb (a == u) (b == v) h
  simpa using this

/-- `pi` is the exchange; -/
theorem words_of_exchanges (x : FVec F S1x4096x2048 .f32) (p : IVec S2 32)
    (h : Cert.Pre_exchanges_Kernel.fn (F := F) x p = fun _ => 1#1) : p = words 1#32 0#32 := by
  have h' : IntOp.andi (IntOp.cmpi .eq (p (ix1 (0 : Fin 2))) 1#32) (IntOp.cmpi .eq (p (ix1 (1 : Fin 2))) 0#32) = 1#1 := by
    refine Eq.trans ?_ (congrFun h fun a => a.elim0)
    unfold Cert.Pre_exchanges_Kernel.fn
    refine congrArg₂ (fun a b => IntOp.andi (IntOp.cmpi .eq a 1#32) (IntOp.cmpi .eq b 0#32)) ?_ ?_
    · exact congrArg p (funext fun a => by fin_cases a; rfl)
    · exact congrArg p (funext fun a => by fin_cases a; rfl)
  exact eq_words p (both_eq h').1 (both_eq h').2

/-- it is the identity. -/
theorem words_of_keeps (x : FVec F S1x4096x2048 .f32) (p : IVec S2 32)
    (h : Cert.Pre_keeps_Kernel.fn (F := F) x p = fun _ => 1#1) : p = words 0#32 1#32 := by
  have h' : IntOp.andi (IntOp.cmpi .eq (p (ix1 (0 : Fin 2))) 0#32) (IntOp.cmpi .eq (p (ix1 (1 : Fin 2))) 1#32) = 1#1 := by
    refine Eq.trans ?_ (congrFun h fun a => a.elim0)
    unfold Cert.Pre_keeps_Kernel.fn
    refine congrArg₂ (fun a b => IntOp.andi (IntOp.cmpi .eq a 0#32) (IntOp.cmpi .eq b 1#32)) ?_ ?_
    · exact congrArg p (funext fun a => by fin_cases a; rfl)
    · exact congrArg p (funext fun a => by fin_cases a; rfl)
  exact eq_words p (both_eq h').1 (both_eq h').2

variable (m : (ℓ : Loc nD τ sig) → Buf (Elt F) ℓ)

/-- The word a device reads, of a `pi` that holds `a` and `b`. -/
theorem piWord_words {a b : BitVec 32} (c : Dev nD) (h : m ((c.tc : Thread nD τ).loc main_arg1) = words a b) :
    piWord m c = (![a, b] : Fin 2 → BitVec 32) ⟨c.val % 2, Nat.mod_lt _ Nat.two_pos⟩ := by
  have e : piStg m c = words a b := by
    funext i
    show (m ((c : Thread nD τ).loc main_arg1)) _ = _
    refine (congrFun h _).trans ?_
    exact congrArg (words a b) (funext fun x => Fin.ext (by fin_cases x; show (0 : ℕ) * 2 + 1 * (i 0).val = _; simp))
  show piStg m c _ = _
  rw [e]
  fin_cases c <;> rfl

/-- The device's own row. -/
theorem yWord_eq : ∀ c : Dev nD, yWord c = BitVec.ofNat 32 (c.val % 2) := by decide +kernel

theorem says_exchange (h : ∀ c : Dev nD, m ((c.tc : Thread nD τ).loc main_arg1) = words 1#32 0#32) : Says m true := by
  intro c
  rw [if_pos rfl, piWord_words m c (h c), yWord_eq]
  exact (by decide : ∀ c : Dev nD, (![1#32, 0#32] : Fin 2 → BitVec 32) ⟨c.val % 2, Nat.mod_lt _ Nat.two_pos⟩ ≠ BitVec.ofNat 32 (c.val % 2)) c

theorem says_keep (h : ∀ c : Dev nD, m ((c.tc : Thread nD τ).loc main_arg1) = words 0#32 1#32) : Says m false := by
  intro c
  rw [if_neg Bool.false_ne_true, piWord_words m c (h c), yWord_eq]
  exact (by decide : ∀ c : Dev nD, (![0#32, 1#32] : Fin 2 → BitVec 32) ⟨c.val % 2, Nat.mod_lt _ Nat.two_pos⟩ = BitVec.ofNat 32 (c.val % 2)) c

end Cert.Exchange

end
-- ==== Proof.Value.lean ====
/-
# The reference's value

The rows of `x` that the reference takes, when `pi` is one of the two permutations of its rows.
-/
module

public import proofs.«01_k».proof.Proof.Gen.ReferenceIdeal.Run
public import Idealize.ShloMosaic.Lib.ValueIdxCore

@[expose] public section

noncomputable section

namespace Cert.Taken

open Cert.ReferenceIdeal Cert.ReferenceIdeal.Gen

open Idealize.ShloMosaic
open Idealize.ShloMosaic.ValueIdx (ix1 eq_ix1 ix2)

/-- The row numbers the reference gathers, from the contents of `pi`: its sorting permutation, a negative number read from
    the far end. -/
def rows (p : IVec S2 32) : IVec S2x1 32 :=
  let o := (Host.sort2 S2 0 comparator_i32_i32_d0 p (iotaInDim S2 32 0)).2
  broadcastInDim S2x1 ![0] bcast_S2_S2x1_0
    (select (cmpi .slt o (broadcastInDim S2 ![] bcast_S_S2 (constantI S_ 32 0#32)))
      (addi o (broadcastInDim S2 ![] bcast_S_S2 (constantI S_ 32 2#32))) o)

/-- The row that goes to row `r`: the other one, or itself. -/
abbrev swap (sw : Bool) (r : Fin 2) : Fin 2 := if sw then 1 - r else r

/-- A permutation of two rows, as the contents of `pi`. -/
abbrev asPi (k : Fin 2 → Fin 2) : IVec S2 32 := fun i => BitVec.ofNat 32 (k (i 0)).val

/-- Each of the two permutations is its own sorting permutation. -/
theorem sorted (sw : Bool) : (Host.sort2 S2 0 comparator_i32_i32_d0 (asPi (swap sw)) (iotaInDim S2 32 0)).2 = asPi (swap sw) := by
  funext i
  obtain ⟨r, rfl⟩ : ∃ r : Fin 2, i = ix1 r := ⟨i 0, eq_ix1 i⟩
  revert sw r
  show ∀ sw (r : Fin 2), (_ : BitVec 32) = _
  decide +kernel

theorem rows_asPi (sw : Bool) (r : Fin 2) : rows (asPi (swap sw)) (ix2 r (0 : Fin 1)) = BitVec.ofNat 32 (swap sw r).val := by
  unfold rows
  rw [sorted]
  revert sw r
  show ∀ sw (r : Fin 2), (_ : BitVec 32) = _
  decide +kernel

variable {α : Type}

/-- Row `k r` of `x` at row `r`. -/
def taken (k : Fin 2 → Fin 2) (x : S2x4096x2048.Idx → α) : S2x4096x2048.Idx → α :=
  fun j => x fun a => match a with
    | ⟨0, _⟩ => k (j 0)
    | ⟨1, _⟩ => j 1
    | ⟨2, _⟩ => j 2

/-- Where the gather's result element `j` comes from, axis by axis. -/
theorem gathered (x : S2x4096x2048.Idx → α) (idx : IVec S2x1 32) (k : Fin 2 → Fin 2)
    (h : ∀ r : Fin 2, idx (ix2 r (0 : Fin 1)) = BitVec.ofNat 32 (k r).val) :
    Host.gather gather_S2x4096x2048_S2x1_S2x4096x2048_12_0_n_n_0_1_140962048 x idx = taken k x := by
  funext j
  refine congrArg x (funext fun a => Fin.ext ?_)
  match a with
  | ⟨0, _⟩ =>
    have e : idx (gather_S2x4096x2048_S2x1_S2x4096x2048_12_0_n_n_0_1_140962048.siIdx j ⟨0, by decide⟩) = BitVec.ofNat 32 (k (j 0)).val := by
      rw [← h (j 0)]
      exact congrArg idx (funext fun b => Fin.ext (by match b with | ⟨0, _⟩ => rfl | ⟨1, _⟩ => rfl))
    show min (idx (gather_S2x4096x2048_S2x1_S2x4096x2048_12_0_n_n_0_1_140962048.siIdx j ⟨0, by decide⟩)).toInt.toNat 1 + 0 + 0 = (k (j 0)).val
    rw [e]
    exact (by decide : ∀ t : Fin 2, min (BitVec.ofNat 32 t.val).toInt.toNat 1 + 0 + 0 = t.val) (k (j 0))
  | ⟨1, _⟩ => show 0 + 0 + (j 1).val = (j 1).val; omega
  | ⟨2, _⟩ => show 0 + 0 + (j 2).val = (j 2).val; omega

/-- What the reference ends at, when `pi` is a permutation. -/
theorem gather_asPi (x : S2x4096x2048.Idx → α) (sw : Bool) :
    Host.gather gather_S2x4096x2048_S2x1_S2x4096x2048_12_0_n_n_0_1_140962048 x (rows (asPi (swap sw))) = taken (swap sw) x :=
  gathered x _ (swap sw) (rows_asPi sw)

end Cert.Taken

end
-- ==== Proof.Whole.lean ====
/-
# The kernel's blocks and the reference's whole array

What each device ends with is its block of the rows the reference takes.
-/
module

public import proofs.«01_k».proof.Proof.Run
public import proofs.«01_k».proof.Proof.Start
public import proofs.«01_k».proof.Proof.Value
public import Idealize.ShloMosaic.Lib.Layout

@[expose] public section

noncomputable section

namespace Cert.Exchange

open Cert.KernelIdeal Cert.KernelIdeal.Gen
open Cert.Taken (swap taken asPi rows gather_asPi)

open Idealize.ShloMosaic
open Idealize.ShloMosaic.TcCoe
open Idealize.SL.Sem
open Idealize.ShloMosaic.ValueIdx (ix1 eq_ix1)

theorem words_swap (sw : Bool) : words (if sw then 1#32 else 0#32) (if sw then 0#32 else 1#32) = asPi (swap sw) := by
  funext i
  obtain ⟨r, rfl⟩ : ∃ r : Fin 2, i = ix1 r := ⟨i 0, eq_ix1 i⟩
  revert sw r
  show ∀ sw (r : Fin 2), (_ : BitVec 32) = _
  decide

variable {α : Type}

/-- Device `c`'s block of a whole array: the row its place along the second mesh axis names. -/
abbrev blk (c : Dev nD) (v : (⟨3, ![2, 4096, 2048]⟩ : Shape).Idx → α) : S1x4096x2048.Idx → α :=
  Layout.blockN ⟨3, ![1, 4096, 2048]⟩ ⟨3, ![2, 4096, 2048]⟩ (Layout.meshBlock [2, 2] ![[1], [], []] c) v

/-- Device `d` holds device `c`'s block of the rows taken, when the row taken to `c`'s is `d`'s. -/
theorem blk_taken (sw : Bool) (c d : Dev nD) (h : d.val % 2 = (swap sw ⟨c.val % 2, Nat.mod_lt _ Nat.two_pos⟩).val)
    (v : (⟨3, ![2, 4096, 2048]⟩ : Shape).Idx → α) (j : S1x4096x2048.Idx) : blk d v j = blk c (taken (swap sw) v) j := by
  have hc : ∀ c : Dev nD, ((Layout.meshBlock [2, 2] (![[1], [], []] : Fin 3 → List Nat) c) 0).val = c.val % 2 := by decide
  have hj : (j 0).val = 0 := Nat.lt_one_iff.mp (j 0).isLt
  have hr : ∀ c : Dev nD, ∀ t : Layout.TilesN ⟨3, ![1, 4096, 2048]⟩ ⟨3, ![2, 4096, 2048]⟩ _,
      (t.idx (Layout.meshBlock [2, 2] (![[1], [], []] : Fin 3 → List Nat) c) j 0).val = c.val % 2 := fun c t => by
    rw [Layout.TilesN.idx_val]
    show ((Layout.meshBlock [2, 2] (![[1], [], []] : Fin 3 → List Nat) c) 0).val * 1 + (j 0).val = _
    rw [hc, hj]; omega
  refine congrArg v (funext fun a => Fin.ext ?_)
  match a with
  | ⟨0, _⟩ =>
    refine (hr d _).trans (h.trans ?_)
    exact congrArg (fun r : Fin 2 => (swap sw r).val) (Fin.ext (hr c _).symm)
  | ⟨1, _⟩ => rfl
  | ⟨2, _⟩ => rfl

variable {F : FTy → Type} [FloatOps F]
variable (m : (ℓ : Loc nD τ sig) → Buf (Elt F) ℓ)

/-- The kernel's result is the reference's, block by block. -/
theorem fin_blk (sw : Bool) (v : (⟨3, ![2, 4096, 2048]⟩ : Shape).Idx → Elt F .f32)
    (h : ∀ c : Dev nD, m ((c.tc : Thread nD τ).loc main_arg0) = blk c v) (c : Dev nD) : fin m sw c = blk c (taken (swap sw) v) := by
  have hx : ∀ d, xAt m d = blk d v := h
  have hy : ∀ d : Dev nD, (yDev d).val % 2 = 1 - d.val % 2 := by decide +kernel
  have hyx : ∀ d : Dev nD, (yDev (xDev d)).val % 2 = 1 - d.val % 2 := by decide +kernel
  have hs : ∀ d : Dev nD, (swap true ⟨d.val % 2, Nat.mod_lt _ Nat.two_pos⟩).val = 1 - d.val % 2 := by decide
  have hn : ∀ d : Dev nD, (swap false ⟨d.val % 2, Nat.mod_lt _ Nat.two_pos⟩).val = d.val % 2 := by decide
  funext j
  unfold fin
  cases sw
  · rw [if_neg Bool.false_ne_true, hx]
    exact blk_taken false c c (hn c).symm v j
  · rw [if_pos rfl]
    split
    · rw [hx]; exact blk_taken true c (yDev c) ((hy c).trans (hs c).symm) v j
    · rw [hx]; exact blk_taken true c (yDev (xDev c)) ((hyx c).trans (hs c).symm) v j

/-- Whichever of the two permutations `pi` is, it says the same to every device. -/
theorem says_swap (sw : Bool) (h : ∀ c : Dev nD, m ((c.tc : Thread nD τ).loc main_arg1) = asPi (swap sw)) : Says m sw := by
  cases sw
  · exact says_keep m fun c => (h c).trans (words_swap false).symm
  · exact says_exchange m fun c => (h c).trans (words_swap true).symm

end Cert.Exchange

end
-- ==== Proof.Same.lean ====
/-
# One text at both precisions

The kernel as written and the kernel read over exact numbers are one program: a run of the one is a run of the other.
-/
module

public import proofs.«01_k».proof.Proof.Gen.Kernel
public import proofs.«01_k».proof.Proof.Gen.KernelIdeal
public import Idealize.ShloMosaic.Lib.Pipeline.Regions

@[expose] public section

noncomputable section

namespace Cert.Exchange

open Idealize.ShloMosaic Idealize.SL.Sem

variable {F : FTy → Type} [FloatOps F]

set_option maxRecDepth 65536 in
theorem defs_same : Cert.Kernel.defs (F := F) = Cert.KernelIdeal.defs (F := F) := by chain_rfl
theorem main_same : Cert.Kernel.main (F := F) = Cert.KernelIdeal.main (F := F) := by chain_rfl

/-- A run of equal programs. -/
theorem run_congr {nD : ℕ} {τ : Topo} {sig : RefSig} {Val : EltTy → Type} {Λ : Labels} {d d' : Defs nD τ sig Val Λ}
    {k k' : Dev nD → Prog (TpuEff nD τ sig Val Λ .tc) PUnit} (hd : d = d') (hk : k = k') {s : MemSt nD τ sig Val}
    {P : _ → Prop} (h : θ_run d' (onTc (τ := τ) k') s P) : θ_run d (onTc (τ := τ) k) s P := by
  subst hd hk; exact h

end Cert.Exchange

end
-- ==== Proof.lean ====
/-
# The certificate

The kernel's run at both precisions, the reference's, and the two values put side by side; once for each of the two
permutations `pi` can be.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_exchanges_Kernel
public import proofs.«01_k».proof.Proof.Gen.Pre_keeps_Kernel
public import proofs.«01_k».proof.Proof.Gen.Pre_exchanges_ReferenceIdeal
public import proofs.«01_k».proof.Proof.Gen.Pre_keeps_ReferenceIdeal
public import proofs.«01_k».proof.Proof.Run
public import proofs.«01_k».proof.Proof.Whole
public import proofs.«01_k».proof.Proof.Same

@[expose] public section

noncomputable section

namespace Cert.Proof

open Idealize.ShloMosaic Idealize.SL.Sem
open Cert.Exchange (words_of_exchanges words_of_keeps words_swap says_swap run_main fin_blk run_congr defs_same main_same)
open Cert.Taken (swap taken asPi gather_asPi)

/-- `pi` under the first precondition; -/
theorem pi_exchanges {F : FTy → Type} [FloatOps F] (x : FVec F Cert.KernelIdeal.S1x4096x2048 .f32) (p : IVec Cert.KernelIdeal.S2 32)
    (h : Cert.Pre_exchanges_Kernel.fn (F := F) x p = fun _ => 1#1) : p = asPi (swap true) :=
  (words_of_exchanges x p h).trans (words_swap true)

/-- under the second. -/
theorem pi_keeps {F : FTy → Type} [FloatOps F] (x : FVec F Cert.KernelIdeal.S1x4096x2048 .f32) (p : IVec Cert.KernelIdeal.S2 32)
    (h : Cert.Pre_keeps_Kernel.fn (F := F) x p = fun _ => 1#1) : p = asPi (swap false) :=
  (words_of_keeps x p h).trans (words_swap false)

/-! ## The runs -/

/-- A run of the kernel under `pi` either way: the arguments end as they were, every semaphore at zero. -/
theorem frame {F : FTy → Type} [FloatOps F] (sw : Bool) (m : (ℓ : Loc KernelIdeal.nD KernelIdeal.τ KernelIdeal.sig) → Buf (Elt F) ℓ)
    (g : Dev KernelIdeal.nD → PrngReg)
    (h : ∀ c : Dev KernelIdeal.nD, m ((c.tc : Thread KernelIdeal.nD KernelIdeal.τ).loc KernelIdeal.main_arg1) = asPi (swap sw)) :
    θ_run (KernelIdeal.defs (F := F)) (onTc (τ := KernelIdeal.τ) (KernelIdeal.main (F := F))) ⟨m, fun _ => 0, g⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0 :=
  (θ_run KernelIdeal.defs _ _).mono (fun _ r => ⟨fun c => ⟨(r.1 c).1.1, (r.1 c).2⟩, r.2⟩) (run_main m g sw (says_swap m sw h))

theorem frame_kernel : Cert.quiescent_Kernel := fun m g h =>
  run_congr defs_same main_same (frame (F := Bits) true m g fun c => pi_exchanges (F := Bits) _ _ (h c))

theorem frame_kernel_keeps : Cert.quiescent_Kernel_pre_keeps_Kernel := fun m g h =>
  run_congr defs_same main_same (frame (F := Bits) false m g fun c => pi_keeps (F := Bits) _ _ (h c))

theorem frame_ideal : Cert.quiescent_KernelIdeal := fun m g h =>
  frame (F := Ideal) true m g fun c => pi_exchanges (F := Ideal) _ _ (h c)

theorem frame_ideal_keeps : Cert.quiescent_KernelIdeal_pre_keeps_Kernel := fun m g h =>
  frame (F := Ideal) false m g fun c => pi_keeps (F := Ideal) _ _ (h c)

/-- The reference declares no semaphore, and writes neither argument. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-! ## The values -/

section
open Cert.KernelIdeal

/-- From memories that agree, with `pi` one of the two permutations, the two programs end at one value. -/
theorem same_value (sw : Bool) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (hp : ∀ c : Dev nD, m ((c.tc : Thread nD τ).loc main_arg1) = asPi (swap sw))
    (h : ∀ c : Dev nD,
      m ((c.tc : Thread nD τ).loc main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (defs (F := Ideal)) (onTc (τ := τ) (main (F := Ideal))) ⟨m, fun _ => 0, g⟩ (fun r => ∀ c : Dev nD,
          r.2.mem ((c.tc : Thread nD τ).loc main_v1) = Layout.blockN ⟨3, ![1, 4096, 2048]⟩ ⟨3, ![2, 4096, 2048]⟩ (Layout.meshBlock [2, 2] ![[1], [], []] c) v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨taken (swap sw) (m' (((0 : Dev Cert.ReferenceIdeal.nD).tc : Thread Cert.ReferenceIdeal.nD Cert.ReferenceIdeal.τ).loc Cert.ReferenceIdeal.main_arg0)), ?_, ?_⟩
  · exact (θ_run defs _ _).mono
      (fun _ r c => ⟨(r.1 c).1.2.trans (fin_blk m sw _ (fun c => (h c).1) c), (r.1 c).1.1, (r.1 c).2⟩)
      (run_main (F := Ideal) m g sw (says_swap m sw hp))
  · have hp' := (h 0).2.symm.trans (hp 0)
    refine (θ_run Cert.ReferenceIdeal.defs _ _).mono (fun _ r => ⟨(r 0).1.trans ?_, (r 0).2⟩) (Cert.ReferenceIdeal.Value.run (F := Ideal) m' g')
    rw [hp']
    exact gather_asPi _ sw

end

theorem algebraic : Cert.algebraic_KernelIdeal_ReferenceIdeal := fun m g m' g' hpre h =>
  same_value true m g m' g' (fun c => pi_exchanges (F := Ideal) _ _ (hpre c)) h

theorem algebraic_keeps : Cert.algebraic_KernelIdeal_ReferenceIdeal_pre_keeps_Kernel := fun m g m' g' hpre h =>
  same_value false m g m' g' (fun c => pi_keeps (F := Ideal) _ _ (hpre c)) h

theorem claim : Cert.Claim :=
  ⟨Cert.Kernel.Gen.facts, Cert.KernelIdeal.Gen.facts, Cert.ReferenceIdeal.Gen.facts, Cert.Pre_exchanges_Kernel.Gen.facts,
    Cert.Pre_keeps_Kernel.Gen.facts, Cert.Pre_exchanges_ReferenceIdeal.Gen.facts, Cert.Pre_keeps_ReferenceIdeal.Gen.facts,
    frame_kernel, frame_kernel_keeps, frame_ideal, frame_ideal_keeps, frame_reference,
    fun m g _ => frame_reference m g trivial, fun m g _ => frame_reference m g trivial,
    trivial, algebraic, algebraic_keeps⟩

end Cert.Proof

end
